-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x4x128 : Shape := ⟨4, ![1, 2048, 4, 128]⟩
abbrev S32 : Shape := ⟨1, ![32]⟩
abbrev S128x3 : Shape := ⟨2, ![128, 3]⟩
abbrev S3 : Shape := ⟨1, ![3]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S_ : Shape := ⟨0, ![]⟩
abbrev S16 : Shape := ⟨1, ![16]⟩
abbrev S1x1x16 : Shape := ⟨3, ![1, 1, 16]⟩
abbrev S128x128x16 : Shape := ⟨3, ![128, 128, 16]⟩
abbrev S128x2048 : Shape := ⟨2, ![128, 2048]⟩
abbrev S1 : Shape := ⟨1, ![1]⟩
abbrev S2 : Shape := ⟨1, ![2]⟩
abbrev S2048x512 : Shape := ⟨2, ![2048, 512]⟩
abbrev S256x128 : Shape := ⟨2, ![256, 128]⟩
abbrev S2048x128 : Shape := ⟨2, ![2048, 128]⟩
abbrev S256x2048 : Shape := ⟨2, ![256, 2048]⟩
abbrev S256x1 : Shape := ⟨2, ![256, 1]⟩
abbrev S256 : Shape := ⟨1, ![256]⟩
abbrev S128x32 : Shape := ⟨2, ![128, 32]⟩
abbrev S256x32 : Shape := ⟨2, ![256, 32]⟩
abbrev S32x1024 : Shape := ⟨2, ![32, 1024]⟩
abbrev S256x1024 : Shape := ⟨2, ![256, 1024]⟩
abbrev S1024x128 : Shape := ⟨2, ![1024, 128]⟩
abbrev S256x512 : Shape := ⟨2, ![256, 512]⟩
abbrev S512x128 : Shape := ⟨2, ![512, 128]⟩

abbrev nBuf : Space → Nat
  | .hbm => 68
  | .vmem => 15
  | .smem => 0
  | _ => 0

abbrev bufTy : (tb : Table) → Fin (tcTables nBuf tb) → BufTy
  | .hbm, ⟨0, _⟩ => ⟨S1x2048x4x128, .f32⟩
  | .hbm, ⟨1, _⟩ => ⟨S1x2048x4x128, .f32⟩
  | .hbm, ⟨2, _⟩ => ⟨S1x2048x4x128, .f32⟩
  | .hbm, ⟨3, _⟩ => ⟨S32, .f32⟩
  | .hbm, ⟨4, _⟩ => ⟨S32, .f32⟩
  | .hbm, ⟨5, _⟩ => ⟨S128x3, .f32⟩
  | .hbm, ⟨6, _⟩ => ⟨S3, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S128x128, .f32⟩
  | .hbm, ⟨15, _⟩ => ⟨S128x128x1, .f32⟩
  | .hbm, ⟨16, _⟩ => ⟨S_, .i32⟩
  | .hbm, ⟨17, _⟩ => ⟨S128x1, .i32⟩
  | .hbm, ⟨18, _⟩ => ⟨S128x1, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S128x128, .f32⟩
  | .hbm, ⟨23, _⟩ => ⟨S128x128x1, .f32⟩
  | .hbm, ⟨24, _⟩ => ⟨S16, .f32⟩
  | .hbm, ⟨25, _⟩ => ⟨S1x1x16, .f32⟩
  | .hbm, ⟨26, _⟩ => ⟨S128x128x16, .f32⟩
  | .hbm, ⟨27, _⟩ => ⟨S128x128x16, .f32⟩
  | .hbm, ⟨28, _⟩ => ⟨S128x128x16, .f32⟩
  | .hbm, ⟨29, _⟩ => ⟨S16, .f32⟩
  | .hbm, ⟨30, _⟩ => ⟨S1x1x16, .f32⟩
  | .hbm, ⟨31, _⟩ => ⟨S128x128x16, .f32⟩
  | .hbm, ⟨32, _⟩ => ⟨S128x128x16, .f32⟩
  | .hbm, ⟨33, _⟩ => ⟨S128x128x16, .f32⟩
  | .hbm, ⟨34, _⟩ => ⟨S128x128x16, .f32⟩
  | .hbm, ⟨35, _⟩ => ⟨S128x2048, .f32⟩
  | .hbm, ⟨36, _⟩ => ⟨S128x2048, .bf16⟩
  | .hbm, ⟨37, _⟩ => ⟨S16, .f32⟩
  | .hbm, ⟨38, _⟩ => ⟨S1x1x16, .f32⟩
  | .hbm, ⟨39, _⟩ => ⟨S128x128x16, .f32⟩
  | .hbm, ⟨40, _⟩ => ⟨S128x128x16, .f32⟩
  | .hbm, ⟨41, _⟩ => ⟨S128x128x16, .f32⟩
  | .hbm, ⟨42, _⟩ => ⟨S16, .f32⟩
  | .hbm, ⟨43, _⟩ => ⟨S1x1x16, .f32⟩
  | .hbm, ⟨44, _⟩ => ⟨S128x128x16, .f32⟩
  | .hbm, ⟨45, _⟩ => ⟨S128x128x16, .f32⟩
  | .hbm, ⟨46, _⟩ => ⟨S128x128x16, .f32⟩
  | .hbm, ⟨47, _⟩ => ⟨S128x128x16, .f32⟩
  | .hbm, ⟨48, _⟩ => ⟨S128x2048, .f32⟩
  | .hbm, ⟨49, _⟩ => ⟨S128x2048, .bf16⟩
  | .hbm, ⟨50, _⟩ => ⟨S_, .f32⟩
  | .hbm, ⟨51, _⟩ => ⟨S128x128, .f32⟩
  | .hbm, ⟨52, _⟩ => ⟨S_, .i32⟩
  | .hbm, ⟨53, _⟩ => ⟨S1, .i32⟩
  | .hbm, ⟨54, _⟩ => ⟨S128x128, .f32⟩
  | .hbm, ⟨55, _⟩ => ⟨S_, .f32⟩
  | .hbm, ⟨56, _⟩ => ⟨S1x128, .f32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S2, .i32⟩
  | .hbm, ⟨62, _⟩ => ⟨S1x128, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S2048x512, .f32⟩
  | .hbm, ⟨67, _⟩ => ⟨S1x2048x4x128, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x2048, .bf16⟩
  | .local _ .vmem, ⟨7, _⟩ => ⟨S128x2048, .bf16⟩
  | .local _ .vmem, ⟨8, _⟩ => ⟨S128x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x2048, .f32⟩
  | .local _ .vmem, ⟨13, _⟩ => ⟨S128x128, .f32⟩
  | .local _ .vmem, ⟨14, _⟩ => ⟨S128x128, .f32⟩
  | _, _ => ⟨S1x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_call0_v23 : Ref sig .tc := ⟨.hbm, 31, rfl⟩
abbrev main_call0_v24 : Ref sig .tc := ⟨.hbm, 32, rfl⟩
abbrev main_call0_v25 : Ref sig .tc := ⟨.hbm, 33, rfl⟩
abbrev main_call0_v26 : Ref sig .tc := ⟨.hbm, 34, rfl⟩
abbrev main_call0_v27 : Ref sig .tc := ⟨.hbm, 35, rfl⟩
abbrev main_call0_v28 : Ref sig .tc := ⟨.hbm, 36, rfl⟩
abbrev main_call0_v29 : Ref sig .tc := ⟨.hbm, 37, rfl⟩
abbrev main_call0_v30 : Ref sig .tc := ⟨.hbm, 38, rfl⟩
abbrev main_call0_v31 : Ref sig .tc := ⟨.hbm, 39, rfl⟩
abbrev main_call0_v32 : Ref sig .tc := ⟨.hbm, 40, rfl⟩
abbrev main_call0_v33 : Ref sig .tc := ⟨.hbm, 41, rfl⟩
abbrev main_call0_v34 : Ref sig .tc := ⟨.hbm, 42, rfl⟩
abbrev main_call0_v35 : Ref sig .tc := ⟨.hbm, 43, rfl⟩
abbrev main_call0_v36 : Ref sig .tc := ⟨.hbm, 44, rfl⟩
abbrev main_call0_v37 : Ref sig .tc := ⟨.hbm, 45, rfl⟩
abbrev main_call0_v38 : Ref sig .tc := ⟨.hbm, 46, rfl⟩
abbrev main_call0_v39 : Ref sig .tc := ⟨.hbm, 47, rfl⟩
abbrev main_call0_v40 : Ref sig .tc := ⟨.hbm, 48, rfl⟩
abbrev main_call0_v41 : Ref sig .tc := ⟨.hbm, 49, rfl⟩
abbrev main_call0_cst : Ref sig .tc := ⟨.hbm, 50, rfl⟩
abbrev main_call0_v42 : Ref sig .tc := ⟨.hbm, 51, rfl⟩
abbrev main_call0_c_0 : Ref sig .tc := ⟨.hbm, 52, rfl⟩
abbrev main_call0_v43 : Ref sig .tc := ⟨.hbm, 53, rfl⟩
abbrev main_call0_v44 : Ref sig .tc := ⟨.hbm, 54, rfl⟩
abbrev main_call0_cst_1 : Ref sig .tc := ⟨.hbm, 55, rfl⟩
abbrev main_call0_v45 : Ref sig .tc := ⟨.hbm, 56, rfl⟩
abbrev main_call0_c_2 : Ref sig .tc := ⟨.hbm, 57, rfl⟩
abbrev main_call0_v46 : Ref sig .tc := ⟨.hbm, 58, rfl⟩
abbrev main_call0_c_3 : Ref sig .tc := ⟨.hbm, 59, rfl⟩
abbrev main_call0_v47 : Ref sig .tc := ⟨.hbm, 60, rfl⟩
abbrev main_call0_v48 : Ref sig .tc := ⟨.hbm, 61, rfl⟩
abbrev main_call0_v49 : Ref sig .tc := ⟨.hbm, 62, rfl⟩
abbrev main_call0_v50 : Ref sig .tc := ⟨.hbm, 63, rfl⟩
abbrev main_call0_v51 : Ref sig .tc := ⟨.hbm, 64, rfl⟩
abbrev main_call0_v52 : Ref sig .tc := ⟨.hbm, 65, rfl⟩
abbrev main_call0_v53 : Ref sig .tc := ⟨.hbm, 66, rfl⟩
abbrev main_v0 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_88 : BitVec 32 := 0#32
  let arg1 : BitVec 32 := BitVec.ofNat 32 (i 1).val
  let c1_i32_77 : BitVec 32 := 1#32
  let v254 : BitVec 32 := Scalar.addi arg1 c1_i32_77
  let c256_i32_78 : BitVec 32 := 256#32
  let v255 : BitVec 32 := Scalar.muli v254 c256_i32_78
  let c1024_i32 : BitVec 32 := 1024#32
  let v256 : BitVec 32 := Scalar.addi v255 c1024_i32
  let c1_i32_79 : BitVec 32 := 1#32
  let v257 : BitVec 32 := Scalar.subi v256 c1_i32_79
  let c0_i32_81 : BitVec 32 := 0#32
  let v259 : BitVec 1 := Scalar.cmpi .sgt v257 c0_i32_81
  let v260 : BitVec 32 := Scalar.extui v259
  let c0_i32_82 : BitVec 32 := 0#32
  let v261 : BitVec 1 := Scalar.cmpi .slt v257 c0_i32_82
  let v262 : BitVec 32 := Scalar.extui v261
  let v263 : BitVec 32 := Scalar.subi v260 v262
  let c1024_i32_80 : BitVec 32 := 1024#32
  let c0_i32_83 : BitVec 32 := 0#32
  let v264 : BitVec 1 := Scalar.cmpi .sgt c1024_i32_80 c0_i32_83
  let v265 : BitVec 32 := Scalar.extui v264
  let c0_i32_84 : BitVec 32 := 0#32
  let v266 : BitVec 1 := Scalar.cmpi .slt c1024_i32_80 c0_i32_84
  let v267 : BitVec 32 := Scalar.extui v266
  let v268 : BitVec 32 := Scalar.subi v265 v267
  let v269 : BitVec 1 := Scalar.cmpi .ne v263 v268
  let v270 : BitVec 32 := Scalar.remsi v257 c1024_i32_80
  let c0_i32_85 : BitVec 32 := 0#32
  let v271 : BitVec 1 := Scalar.cmpi .ne v270 c0_i32_85
  let v272 : BitVec 1 := Scalar.andi v269 v271
  let v258 : BitVec 32 := Scalar.divsi v257 c1024_i32_80
  let c1_i32_86 : BitVec 32 := 1#32
  let v273 : BitVec 32 := Scalar.subi v258 c1_i32_86
  let v274 : BitVec 32 := Scalar.select v272 v273 v258
  let v276 : BitVec 32 := Scalar.subi v274 c0_i32_88
  let c1_i32_89 : BitVec 32 := 1#32
  let v278 : BitVec 32 := Scalar.divsi v276 c1_i32_89
  let v279 : BitVec 32 := Scalar.muli v278 c1_i32_89
  let v280 : BitVec 32 := Scalar.addi c0_i32_88 v279
  let c1_i32_90 : BitVec 32 := 1#32
  ⟨c0_i32_88, v280, c1_i32_90⟩
def k0_off1 (i : grid0.Coords) (k0_t1 : Fin (k0_t1_loop i).trips) : Fin 2 → Nat :=
  let c0_i32_88 : BitVec 32 := 0#32
  let c1_i32_90 : BitVec 32 := 1#32
  let arg13 : BitVec 32 := Scf.iv c0_i32_88 c1_i32_90 k0_t1
  let c1024_i32_118 : BitVec 32 := 1024#32
  let v350 : BitVec 32 := Scalar.muli arg13 c1024_i32_118
  let v351 : Index := Scalar.indexCast v350
  let c0_119 : Index := 0#32
  ![v351.toNat, 0]
def k0_off2 (i : grid0.Coords) (k0_t1 : Fin (k0_t1_loop i).trips) : Fin 2 → Nat :=
  let c0_123 : Index := 0#32
  let c0_i32_88 : BitVec 32 := 0#32
  let c1_i32_90 : BitVec 32 := 1#32
  let arg13 : BitVec 32 := Scf.iv c0_i32_88 c1_i32_90 k0_t1
  let c1024_i32_122 : BitVec 32 := 1024#32
  let v357 : BitVec 32 := Scalar.muli arg13 c1024_i32_122
  let v358 : Index := Scalar.indexCast v357
  ![0, v358.toNat]
@[reducible] def k0_t2_loop (i : grid0.Coords) : Scf.Loop 32 :=
  let c0_i32_88 : BitVec 32 := 0#32
  let arg1 : BitVec 32 := BitVec.ofNat 32 (i 1).val
  let c1_i32_77 : BitVec 32 := 1#32
  let v254 : BitVec 32 := Scalar.addi arg1 c1_i32_77
  let c256_i32_78 : BitVec 32 := 256#32
  let v255 : BitVec 32 := Scalar.muli v254 c256_i32_78
  let c1024_i32 : BitVec 32 := 1024#32
  let v256 : BitVec 32 := Scalar.addi v255 c1024_i32
  let c1_i32_79 : BitVec 32 := 1#32
  let v257 : BitVec 32 := Scalar.subi v256 c1_i32_79
  let c0_i32_81 : BitVec 32 := 0#32
  let v259 : BitVec 1 := Scalar.cmpi .sgt v257 c0_i32_81
  let v260 : BitVec 32 := Scalar.extui v259
  let c0_i32_82 : BitVec 32 := 0#32
  let v261 : BitVec 1 := Scalar.cmpi .slt v257 c0_i32_82
  let v262 : BitVec 32 := Scalar.extui v261
  let v263 : BitVec 32 := Scalar.subi v260 v262
  let c1024_i32_80 : BitVec 32 := 1024#32
  let c0_i32_83 : BitVec 32 := 0#32
  let v264 : BitVec 1 := Scalar.cmpi .sgt c1024_i32_80 c0_i32_83
  let v265 : BitVec 32 := Scalar.extui v264
  let c0_i32_84 : BitVec 32 := 0#32
  let v266 : BitVec 1 := Scalar.cmpi .slt c1024_i32_80 c0_i32_84
  let v267 : BitVec 32 := Scalar.extui v266
  let v268 : BitVec 32 := Scalar.subi v265 v267
  let v269 : BitVec 1 := Scalar.cmpi .ne v263 v268
  let v270 : BitVec 32 := Scalar.remsi v257 c1024_i32_80
  let c0_i32_85 : BitVec 32 := 0#32
  let v271 : BitVec 1 := Scalar.cmpi .ne v270 c0_i32_85
  let v272 : BitVec 1 := Scalar.andi v269 v271
  let v258 : BitVec 32 := Scalar.divsi v257 c1024_i32_80
  let c1_i32_86 : BitVec 32 := 1#32
  let v273 : BitVec 32 := Scalar.subi v258 c1_i32_86
  let v274 : BitVec 32 := Scalar.select v272 v273 v258
  let v276 : BitVec 32 := Scalar.subi v274 c0_i32_88
  let c1_i32_89 : BitVec 32 := 1#32
  let v278 : BitVec 32 := Scalar.divsi v276 c1_i32_89
  let v279 : BitVec 32 := Scalar.muli v278 c1_i32_89
  let v280 : BitVec 32 := Scalar.addi c0_i32_88 v279
  let v277 : BitVec 32 := Scalar.addi c0_i32_88 v276
  let c1_i32_91 : BitVec 32 := 1#32
  ⟨v280, v277, c1_i32_91⟩
def k0_off3 (i : grid0.Coords) (k0_t2 : Fin (k0_t2_loop i).trips) : Fin 2 → Nat :=
  let c0_i32_88 : BitVec 32 := 0#32
  let arg1 : BitVec 32 := BitVec.ofNat 32 (i 1).val
  let c1_i32_77 : BitVec 32 := 1#32
  let v254 : BitVec 32 := Scalar.addi arg1 c1_i32_77
  let c256_i32_78 : BitVec 32 := 256#32
  let v255 : BitVec 32 := Scalar.muli v254 c256_i32_78
  let c1024_i32 : BitVec 32 := 1024#32
  let v256 : BitVec 32 := Scalar.addi v255 c1024_i32
  let c1_i32_79 : BitVec 32 := 1#32
  let v257 : BitVec 32 := Scalar.subi v256 c1_i32_79
  let c0_i32_81 : BitVec 32 := 0#32
  let v259 : BitVec 1 := Scalar.cmpi .sgt v257 c0_i32_81
  let v260 : BitVec 32 := Scalar.extui v259
  let c0_i32_82 : BitVec 32 := 0#32
  let v261 : BitVec 1 := Scalar.cmpi .slt v257 c0_i32_82
  let v262 : BitVec 32 := Scalar.extui v261
  let v263 : BitVec 32 := Scalar.subi v260 v262
  let c1024_i32_80 : BitVec 32 := 1024#32
  let c0_i32_83 : BitVec 32 := 0#32
  let v264 : BitVec 1 := Scalar.cmpi .sgt c1024_i32_80 c0_i32_83
  let v265 : BitVec 32 := Scalar.extui v264
  let c0_i32_84 : BitVec 32 := 0#32
  let v266 : BitVec 1 := Scalar.cmpi .slt c1024_i32_80 c0_i32_84
  let v267 : BitVec 32 := Scalar.extui v266
  let v268 : BitVec 32 := Scalar.subi v265 v267
  let v269 : BitVec 1 := Scalar.cmpi .ne v263 v268
  let v270 : BitVec 32 := Scalar.remsi v257 c1024_i32_80
  let c0_i32_85 : BitVec 32 := 0#32
  let v271 : BitVec 1 := Scalar.cmpi .ne v270 c0_i32_85
  let v272 : BitVec 1 := Scalar.andi v269 v271
  let v258 : BitVec 32 := Scalar.divsi v257 c1024_i32_80
  let c1_i32_86 : BitVec 32 := 1#32
  let v273 : BitVec 32 := Scalar.subi v258 c1_i32_86
  let v274 : BitVec 32 := Scalar.select v272 v273 v258
  let v276 : BitVec 32 := Scalar.subi v274 c0_i32_88
  let c1_i32_89 : BitVec 32 := 1#32
  let v278 : BitVec 32 := Scalar.divsi v276 c1_i32_89
  let v279 : BitVec 32 := Scalar.muli v278 c1_i32_89
  let v280 : BitVec 32 := Scalar.addi c0_i32_88 v279
  let c1_i32_91 : BitVec 32 := 1#32
  let arg13 : BitVec 32 := Scf.iv v280 c1_i32_91 k0_t2
  let c1024_i32_118 : BitVec 32 := 1024#32
  let v350 : BitVec 32 := Scalar.muli arg13 c1024_i32_118
  let v351 : Index := Scalar.indexCast v350
  let c0_119 : Index := 0#32
  ![v351.toNat, 0]
def k0_off4 (i : grid0.Coords) (k0_t2 : Fin (k0_t2_loop i).trips) : Fin 2 → Nat :=
  let c0_123 : Index := 0#32
  let c0_i32_88 : BitVec 32 := 0#32
  let arg1 : BitVec 32 := BitVec.ofNat 32 (i 1).val
  let c1_i32_77 : BitVec 32 := 1#32
  let v254 : BitVec 32 := Scalar.addi arg1 c1_i32_77
  let c256_i32_78 : BitVec 32 := 256#32
  let v255 : BitVec 32 := Scalar.muli v254 c256_i32_78
  let c1024_i32 : BitVec 32 := 1024#32
  let v256 : BitVec 32 := Scalar.addi v255 c1024_i32
  let c1_i32_79 : BitVec 32 := 1#32
  let v257 : BitVec 32 := Scalar.subi v256 c1_i32_79
  let c0_i32_81 : BitVec 32 := 0#32
  let v259 : BitVec 1 := Scalar.cmpi .sgt v257 c0_i32_81
  let v260 : BitVec 32 := Scalar.extui v259
  let c0_i32_82 : BitVec 32 := 0#32
  let v261 : BitVec 1 := Scalar.cmpi .slt v257 c0_i32_82
  let v262 : BitVec 32 := Scalar.extui v261
  let v263 : BitVec 32 := Scalar.subi v260 v262
  let c1024_i32_80 : BitVec 32 := 1024#32
  let c0_i32_83 : BitVec 32 := 0#32
  let v264 : BitVec 1 := Scalar.cmpi .sgt c1024_i32_80 c0_i32_83
  let v265 : BitVec 32 := Scalar.extui v264
  let c0_i32_84 : BitVec 32 := 0#32
  let v266 : BitVec 1 := Scalar.cmpi .slt c1024_i32_80 c0_i32_84
  let v267 : BitVec 32 := Scalar.extui v266
  let v268 : BitVec 32 := Scalar.subi v265 v267
  let v269 : BitVec 1 := Scalar.cmpi .ne v263 v268
  let v270 : BitVec 32 := Scalar.remsi v257 c1024_i32_80
  let c0_i32_85 : BitVec 32 := 0#32
  let v271 : BitVec 1 := Scalar.cmpi .ne v270 c0_i32_85
  let v272 : BitVec 1 := Scalar.andi v269 v271
  let v258 : BitVec 32 := Scalar.divsi v257 c1024_i32_80
  let c1_i32_86 : BitVec 32 := 1#32
  let v273 : BitVec 32 := Scalar.subi v258 c1_i32_86
  let v274 : BitVec 32 := Scalar.select v272 v273 v258
  let v276 : BitVec 32 := Scalar.subi v274 c0_i32_88
  let c1_i32_89 : BitVec 32 := 1#32
  let v278 : BitVec 32 := Scalar.divsi v276 c1_i32_89
  let v279 : BitVec 32 := Scalar.muli v278 c1_i32_89
  let v280 : BitVec 32 := Scalar.addi c0_i32_88 v279
  let c1_i32_91 : BitVec 32 := 1#32
  let arg13 : BitVec 32 := Scf.iv v280 c1_i32_91 k0_t2
  let c1024_i32_122 : BitVec 32 := 1024#32
  let v357 : BitVec 32 := Scalar.muli arg13 c1024_i32_122
  let v358 : Index := Scalar.indexCast v357
  ![0, v358.toNat]
def k0_off5 (i : grid0.Coords) : Fin 2 → Nat :=
  let c0_95 : Index := 0#32
  let arg1 : BitVec 32 := BitVec.ofNat 32 (i 1).val
  let c1_i32_92 : BitVec 32 := 1#32
  let v283 : BitVec 32 := Scalar.subi arg1 c1_i32_92
  let c0_i32_93 : BitVec 32 := 0#32
  let v284 : BitVec 32 := Scalar.maxsi v283 c0_i32_93
  let c256_i32_94 : BitVec 32 := 256#32
  let v285 : BitVec 32 := Scalar.muli v284 c256_i32_94
  let v286 : Index := Scalar.indexCast v285
  ![0, v286.toNat]
def k0_off6 (i : grid0.Coords) : Fin 2 → Nat :=
  let arg1 : BitVec 32 := BitVec.ofNat 32 (i 1).val
  let c1_i32_92 : BitVec 32 := 1#32
  let v283 : BitVec 32 := Scalar.subi arg1 c1_i32_92
  let c0_i32_93 : BitVec 32 := 0#32
  let v284 : BitVec 32 := Scalar.maxsi v283 c0_i32_93
  let c256_i32_94 : BitVec 32 := 256#32
  let v285 : BitVec 32 := Scalar.muli v284 c256_i32_94
  let v309 : Index := Scalar.indexCast v285
  let c0_101 : Index := 0#32
  ![v309.toNat, 0]
@[reducible] def k0_t3_loop (i : grid0.Coords) : Scf.Loop 32 :=
  let c0_i32_106 : BitVec 32 := 0#32
  let arg1 : BitVec 32 := BitVec.ofNat 32 (i 1).val
  let c1_i32_77 : BitVec 32 := 1#32
  let v254 : BitVec 32 := Scalar.addi arg1 c1_i32_77
  let c256_i32_78 : BitVec 32 := 256#32
  let v255 : BitVec 32 := Scalar.muli v254 c256_i32_78
  let c1024_i32 : BitVec 32 := 1024#32
  let v256 : BitVec 32 := Scalar.addi v255 c1024_i32
  let c1_i32_79 : BitVec 32 := 1#32
  let v257 : BitVec 32 := Scalar.subi v256 c1_i32_79
  let c0_i32_81 : BitVec 32 := 0#32
  let v259 : BitVec 1 := Scalar.cmpi .sgt v257 c0_i32_81
  let v260 : BitVec 32 := Scalar.extui v259
  let c0_i32_82 : BitVec 32 := 0#32
  let v261 : BitVec 1 := Scalar.cmpi .slt v257 c0_i32_82
  let v262 : BitVec 32 := Scalar.extui v261
  let v263 : BitVec 32 := Scalar.subi v260 v262
  let c1024_i32_80 : BitVec 32 := 1024#32
  let c0_i32_83 : BitVec 32 := 0#32
  let v264 : BitVec 1 := Scalar.cmpi .sgt c1024_i32_80 c0_i32_83
  let v265 : BitVec 32 := Scalar.extui v264
  let c0_i32_84 : BitVec 32 := 0#32
  let v266 : BitVec 1 := Scalar.cmpi .slt c1024_i32_80 c0_i32_84
  let v267 : BitVec 32 := Scalar.extui v266
  let v268 : BitVec 32 := Scalar.subi v265 v267
  let v269 : BitVec 1 := Scalar.cmpi .ne v263 v268
  let v270 : BitVec 32 := Scalar.remsi v257 c1024_i32_80
  let c0_i32_85 : BitVec 32 := 0#32
  let v271 : BitVec 1 := Scalar.cmpi .ne v270 c0_i32_85
  let v272 : BitVec 1 := Scalar.andi v269 v271
  let v258 : BitVec 32 := Scalar.divsi v257 c1024_i32_80
  let c1_i32_86 : BitVec 32 := 1#32
  let v273 : BitVec 32 := Scalar.subi v258 c1_i32_86
  let v274 : BitVec 32 := Scalar.select v272 v273 v258
  let v319 : BitVec 32 := Scalar.subi v274 c0_i32_106
  let c1_i32_107 : BitVec 32 := 1#32
  let v321 : BitVec 32 := Scalar.divsi v319 c1_i32_107
  let v322 : BitVec 32 := Scalar.muli v321 c1_i32_107
  let v323 : BitVec 32 := Scalar.addi c0_i32_106 v322
  let c1_i32_108 : BitVec 32 := 1#32
  ⟨c0_i32_106, v323, c1_i32_108⟩
def k0_off7 (i : grid0.Coords) (k0_t3 : Fin (k0_t3_loop i).trips) : Fin 2 → Nat :=
  let c0_119 : Index := 0#32
  let c0_i32_106 : BitVec 32 := 0#32
  let c1_i32_108 : BitVec 32 := 1#32
  let arg13 : BitVec 32 := Scf.iv c0_i32_106 c1_i32_108 k0_t3
  let c1024_i32_118 : BitVec 32 := 1024#32
  let v350 : BitVec 32 := Scalar.muli arg13 c1024_i32_118
  let v351 : Index := Scalar.indexCast v350
  ![0, v351.toNat]
def k0_off8 (i : grid0.Coords) (k0_t3 : Fin (k0_t3_loop i).trips) : Fin 2 → Nat :=
  let c0_i32_106 : BitVec 32 := 0#32
  let c1_i32_108 : BitVec 32 := 1#32
  let arg13 : BitVec 32 := Scf.iv c0_i32_106 c1_i32_108 k0_t3
  let c1024_i32_125 : BitVec 32 := 1024#32
  let v373 : BitVec 32 := Scalar.muli arg13 c1024_i32_125
  let v374 : Index := Scalar.indexCast v373
  let c0_126 : Index := 0#32
  ![v374.toNat, 0]
@[reducible] def k0_t4_loop (i : grid0.Coords) : Scf.Loop 32 :=
  let c0_i32_106 : BitVec 32 := 0#32
  let arg1 : BitVec 32 := BitVec.ofNat 32 (i 1).val
  let c1_i32_77 : BitVec 32 := 1#32
  let v254 : BitVec 32 := Scalar.addi arg1 c1_i32_77
  let c256_i32_78 : BitVec 32 := 256#32
  let v255 : BitVec 32 := Scalar.muli v254 c256_i32_78
  let c1024_i32 : BitVec 32 := 1024#32
  let v256 : BitVec 32 := Scalar.addi v255 c1024_i32
  let c1_i32_79 : BitVec 32 := 1#32
  let v257 : BitVec 32 := Scalar.subi v256 c1_i32_79
  let c0_i32_81 : BitVec 32 := 0#32
  let v259 : BitVec 1 := Scalar.cmpi .sgt v257 c0_i32_81
  let v260 : BitVec 32 := Scalar.extui v259
  let c0_i32_82 : BitVec 32 := 0#32
  let v261 : BitVec 1 := Scalar.cmpi .slt v257 c0_i32_82
  let v262 : BitVec 32 := Scalar.extui v261
  let v263 : BitVec 32 := Scalar.subi v260 v262
  let c1024_i32_80 : BitVec 32 := 1024#32
  let c0_i32_83 : BitVec 32 := 0#32
  let v264 : BitVec 1 := Scalar.cmpi .sgt c1024_i32_80 c0_i32_83
  let v265 : BitVec 32 := Scalar.extui v264
  let c0_i32_84 : BitVec 32 := 0#32
  let v266 : BitVec 1 := Scalar.cmpi .slt c1024_i32_80 c0_i32_84
  let v267 : BitVec 32 := Scalar.extui v266
  let v268 : BitVec 32 := Scalar.subi v265 v267
  let v269 : BitVec 1 := Scalar.cmpi .ne v263 v268
  let v270 : BitVec 32 := Scalar.remsi v257 c1024_i32_80
  let c0_i32_85 : BitVec 32 := 0#32
  let v271 : BitVec 1 := Scalar.cmpi .ne v270 c0_i32_85
  let v272 : BitVec 1 := Scalar.andi v269 v271
  let v258 : BitVec 32 := Scalar.divsi v257 c1024_i32_80
  let c1_i32_86 : BitVec 32 := 1#32
  let v273 : BitVec 32 := Scalar.subi v258 c1_i32_86
  let v274 : BitVec 32 := Scalar.select v272 v273 v258
  let v319 : BitVec 32 := Scalar.subi v274 c0_i32_106
  let c1_i32_107 : BitVec 32 := 1#32
  let v321 : BitVec 32 := Scalar.divsi v319 c1_i32_107
  let v322 : BitVec 32 := Scalar.muli v321 c1_i32_107
  let v323 : BitVec 32 := Scalar.addi c0_i32_106 v322
  let v320 : BitVec 32 := Scalar.addi c0_i32_106 v319
  let c1_i32_109 : BitVec 32 := 1#32
  ⟨v323, v320, c1_i32_109⟩
def k0_off9 (i : grid0.Coords) (k0_t4 : Fin (k0_t4_loop i).trips) : Fin 2 → Nat :=
  let c0_119 : Index := 0#32
  let c0_i32_106 : BitVec 32 := 0#32
  let arg1 : BitVec 32 := BitVec.ofNat 32 (i 1).val
  let c1_i32_77 : BitVec 32 := 1#32
  let v254 : BitVec 32 := Scalar.addi arg1 c1_i32_77
  let c256_i32_78 : BitVec 32 := 256#32
  let v255 : BitVec 32 := Scalar.muli v254 c256_i32_78
  let c1024_i32 : BitVec 32 := 1024#32
  let v256 : BitVec 32 := Scalar.addi v255 c1024_i32
  let c1_i32_79 : BitVec 32 := 1#32
  let v257 : BitVec 32 := Scalar.subi v256 c1_i32_79
  let c0_i32_81 : BitVec 32 := 0#32
  let v259 : BitVec 1 := Scalar.cmpi .sgt v257 c0_i32_81
  let v260 : BitVec 32 := Scalar.extui v259
  let c0_i32_82 : BitVec 32 := 0#32
  let v261 : BitVec 1 := Scalar.cmpi .slt v257 c0_i32_82
  let v262 : BitVec 32 := Scalar.extui v261
  let v263 : BitVec 32 := Scalar.subi v260 v262
  let c1024_i32_80 : BitVec 32 := 1024#32
  let c0_i32_83 : BitVec 32 := 0#32
  let v264 : BitVec 1 := Scalar.cmpi .sgt c1024_i32_80 c0_i32_83
  let v265 : BitVec 32 := Scalar.extui v264
  let c0_i32_84 : BitVec 32 := 0#32
  let v266 : BitVec 1 := Scalar.cmpi .slt c1024_i32_80 c0_i32_84
  let v267 : BitVec 32 := Scalar.extui v266
  let v268 : BitVec 32 := Scalar.subi v265 v267
  let v269 : BitVec 1 := Scalar.cmpi .ne v263 v268
  let v270 : BitVec 32 := Scalar.remsi v257 c1024_i32_80
  let c0_i32_85 : BitVec 32 := 0#32
  let v271 : BitVec 1 := Scalar.cmpi .ne v270 c0_i32_85
  let v272 : BitVec 1 := Scalar.andi v269 v271
  let v258 : BitVec 32 := Scalar.divsi v257 c1024_i32_80
  let c1_i32_86 : BitVec 32 := 1#32
  let v273 : BitVec 32 := Scalar.subi v258 c1_i32_86
  let v274 : BitVec 32 := Scalar.select v272 v273 v258
  let v319 : BitVec 32 := Scalar.subi v274 c0_i32_106
  let c1_i32_107 : BitVec 32 := 1#32
  let v321 : BitVec 32 := Scalar.divsi v319 c1_i32_107
  let v322 : BitVec 32 := Scalar.muli v321 c1_i32_107
  let v323 : BitVec 32 := Scalar.addi c0_i32_106 v322
  let c1_i32_109 : BitVec 32 := 1#32
  let arg13 : BitVec 32 := Scf.iv v323 c1_i32_109 k0_t4
  let c1024_i32_118 : BitVec 32 := 1024#32
  let v350 : BitVec 32 := Scalar.muli arg13 c1024_i32_118
  let v351 : Index := Scalar.indexCast v350
  ![0, v351.toNat]
def k0_off10 (i : grid0.Coords) (k0_t4 : Fin (k0_t4_loop i).trips) : Fin 2 → Nat :=
  let c0_i32_106 : BitVec 32 := 0#32
  let arg1 : BitVec 32 := BitVec.ofNat 32 (i 1).val
  let c1_i32_77 : BitVec 32 := 1#32
  let v254 : BitVec 32 := Scalar.addi arg1 c1_i32_77
  let c256_i32_78 : BitVec 32 := 256#32
  let v255 : BitVec 32 := Scalar.muli v254 c256_i32_78
  let c1024_i32 : BitVec 32 := 1024#32
  let v256 : BitVec 32 := Scalar.addi v255 c1024_i32
  let c1_i32_79 : BitVec 32 := 1#32
  let v257 : BitVec 32 := Scalar.subi v256 c1_i32_79
  let c0_i32_81 : BitVec 32 := 0#32
  let v259 : BitVec 1 := Scalar.cmpi .sgt v257 c0_i32_81
  let v260 : BitVec 32 := Scalar.extui v259
  let c0_i32_82 : BitVec 32 := 0#32
  let v261 : BitVec 1 := Scalar.cmpi .slt v257 c0_i32_82
  let v262 : BitVec 32 := Scalar.extui v261
  let v263 : BitVec 32 := Scalar.subi v260 v262
  let c1024_i32_80 : BitVec 32 := 1024#32
  let c0_i32_83 : BitVec 32 := 0#32
  let v264 : BitVec 1 := Scalar.cmpi .sgt c1024_i32_80 c0_i32_83
  let v265 : BitVec 32 := Scalar.extui v264
  let c0_i32_84 : BitVec 32 := 0#32
  let v266 : BitVec 1 := Scalar.cmpi .slt c1024_i32_80 c0_i32_84
  let v267 : BitVec 32 := Scalar.extui v266
  let v268 : BitVec 32 := Scalar.subi v265 v267
  let v269 : BitVec 1 := Scalar.cmpi .ne v263 v268
  let v270 : BitVec 32 := Scalar.remsi v257 c1024_i32_80
  let c0_i32_85 : BitVec 32 := 0#32
  let v271 : BitVec 1 := Scalar.cmpi .ne v270 c0_i32_85
  let v272 : BitVec 1 := Scalar.andi v269 v271
  let v258 : BitVec 32 := Scalar.divsi v257 c1024_i32_80
  let c1_i32_86 : BitVec 32 := 1#32
  let v273 : BitVec 32 := Scalar.subi v258 c1_i32_86
  let v274 : BitVec 32 := Scalar.select v272 v273 v258
  let v319 : BitVec 32 := Scalar.subi v274 c0_i32_106
  let c1_i32_107 : BitVec 32 := 1#32
  let v321 : BitVec 32 := Scalar.divsi v319 c1_i32_107
  let v322 : BitVec 32 := Scalar.muli v321 c1_i32_107
  let v323 : BitVec 32 := Scalar.addi c0_i32_106 v322
  let c1_i32_109 : BitVec 32 := 1#32
  let arg13 : BitVec 32 := Scf.iv v323 c1_i32_109 k0_t4
  let c1024_i32_125 : BitVec 32 := 1024#32
  let v373 : BitVec 32 := Scalar.muli arg13 c1024_i32_125
  let v374 : Index := Scalar.indexCast v373
  let c0_126 : Index := 0#32
  ![v374.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x2048x4x128 : Shape := ⟨4, ![1, 2048, 4, 128]⟩
abbrev S32 : Shape := ⟨1, ![32]⟩
abbrev S128x3 : Shape := ⟨2, ![128, 3]⟩
abbrev S3 : Shape := ⟨1, ![3]⟩
abbrev S1x4x2048x128 : Shape := ⟨4, ![1, 4, 2048, 128]⟩
abbrev S2048 : Shape := ⟨1, ![2048]⟩
abbrev S127 : Shape := ⟨1, ![127]⟩
abbrev S_ : Shape := ⟨0, ![]⟩
abbrev S127x1 : Shape := ⟨2, ![127, 1]⟩
abbrev S1x32 : Shape := ⟨2, ![1, 32]⟩
abbrev S127x32 : Shape := ⟨2, ![127, 32]⟩
abbrev S127x32x1 : Shape := ⟨3, ![127, 32, 1]⟩
abbrev S1x127x32x4x128 : Shape := ⟨5, ![1, 127, 32, 4, 128]⟩
abbrev S1x127x4x128 : Shape := ⟨4, ![1, 127, 4, 128]⟩
abbrev S1x4x127x128 : Shape := ⟨4, ![1, 4, 127, 128]⟩
abbrev S1x4x2048x127 : Shape := ⟨4, ![1, 4, 2048, 127]⟩
abbrev S1x127 : Shape := ⟨2, ![1, 127]⟩
abbrev S2048x1 : Shape := ⟨2, ![2048, 1]⟩
abbrev S2048x127 : Shape := ⟨2, ![2048, 127]⟩
abbrev S1x1x2048x127 : Shape := ⟨4, ![1, 1, 2048, 127]⟩
abbrev S1x4x2048 : Shape := ⟨3, ![1, 4, 2048]⟩
abbrev S1x4x2048x1 : Shape := ⟨4, ![1, 4, 2048, 1]⟩
abbrev S1x4x2048x32 : Shape := ⟨4, ![1, 4, 2048, 32]⟩
abbrev S2048x32 : Shape := ⟨2, ![2048, 32]⟩
abbrev S1x1x2048x32 : Shape := ⟨4, ![1, 1, 2048, 32]⟩
abbrev S1x4x2048x8 : Shape := ⟨4, ![1, 4, 2048, 8]⟩
abbrev S1x4x2048x8x1 : Shape := ⟨5, ![1, 4, 2048, 8, 1]⟩
abbrev S1x1x1x1x32 : Shape := ⟨5, ![1, 1, 1, 1, 32]⟩
abbrev S1x4x2048x8x32 : Shape := ⟨5, ![1, 4, 2048, 8, 32]⟩
abbrev S1x4x2048x32x64 : Shape := ⟨5, ![1, 4, 2048, 32, 64]⟩
abbrev S1x4x2048x2048 : Shape := ⟨4, ![1, 4, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S1x2048x4x3 : Shape := ⟨4, ![1, 2048, 4, 3]⟩
abbrev S1x1x1x3 : Shape := ⟨4, ![1, 1, 1, 3]⟩
abbrev S1x4x2048x3 : Shape := ⟨4, ![1, 4, 2048, 3]⟩

abbrev nBuf : Space → Nat
  | .hbm => 266
  | .vmem => 0
  | .smem => 0
  | _ => 0

abbrev hbmTy0_0 (i : Nat) : BufTy := match i % 128 with
  | 0 => ⟨S1x2048x4x128, .f32⟩
  | 1 => ⟨S1x2048x4x128, .f32⟩
  | 2 => ⟨S1x2048x4x128, .f32⟩
  | 3 => ⟨S32, .f32⟩
  | 4 => ⟨S32, .f32⟩
  | 5 => ⟨S128x3, .f32⟩
  | 6 => ⟨S3, .f32⟩
  | 7 => ⟨S1x4x2048x128, .f32⟩
  | 8 => ⟨S1x4x2048x128, .f32⟩
  | 9 => ⟨S1x4x2048x128, .f32⟩
  | 10 => ⟨S2048, .i32⟩
  | 11 => ⟨S127, .i32⟩
  | 12 => ⟨S_, .i32⟩
  | 13 => ⟨S127, .i32⟩
  | 14 => ⟨S127, .i32⟩
  | 15 => ⟨S127x1, .i32⟩
  | 16 => ⟨S32, .i32⟩
  | 17 => ⟨S1x32, .i32⟩
  | 18 => ⟨S127x32, .i32⟩
  | 19 => ⟨S127x32, .i32⟩
  | 20 => ⟨S127x32, .i32⟩
  | 21 => ⟨S_, .i32⟩
  | 22 => ⟨S127x32, .i32⟩
  | 23 => ⟨S127x32, .i1⟩
  | 24 => ⟨S_, .i32⟩
  | 25 => ⟨S127x32, .i32⟩
  | 26 => ⟨S127x32, .i32⟩
  | 27 => ⟨S127x32, .i32⟩
  | 28 => ⟨S127x32x1, .i32⟩
  | 29 => ⟨S1x127x32x4x128, .f32⟩
  | 30 => ⟨S1x127x4x128, .f32⟩
  | 31 => ⟨S1x4x127x128, .f32⟩
  | 32 => ⟨S_, .i32⟩
  | 33 => ⟨S127x32, .i32⟩
  | 34 => ⟨S127x32, .i1⟩
  | 35 => ⟨S_, .i32⟩
  | 36 => ⟨S127x32, .i32⟩
  | 37 => ⟨S127x32, .i32⟩
  | 38 => ⟨S127x32, .i32⟩
  | 39 => ⟨S127x32x1, .i32⟩
  | 40 => ⟨S1x127x32x4x128, .f32⟩
  | 41 => ⟨S1x127x4x128, .f32⟩
  | 42 => ⟨S1x4x127x128, .f32⟩
  | 43 => ⟨S1x4x2048x127, .f32⟩
  | 44 => ⟨S_, .f32⟩
  | 45 => ⟨S1x4x2048x127, .f32⟩
  | 46 => ⟨S1x4x2048x127, .f32⟩
  | 47 => ⟨S1x127, .i32⟩
  | 48 => ⟨S2048x1, .i32⟩
  | 49 => ⟨S2048x127, .i32⟩
  | 50 => ⟨S2048x127, .i32⟩
  | 51 => ⟨S2048x127, .i1⟩
  | 52 => ⟨S1x1x2048x127, .i1⟩
  | 53 => ⟨S_, .f32⟩
  | 54 => ⟨S_, .f32⟩
  | 55 => ⟨S1x4x2048x127, .i1⟩
  | 56 => ⟨S1x4x2048x127, .f32⟩
  | 57 => ⟨S1x4x2048x127, .f32⟩
  | 58 => ⟨S_, .f32⟩
  | 59 => ⟨S1x4x2048, .f32⟩
  | 60 => ⟨S1x4x2048x1, .f32⟩
  | 61 => ⟨S1x4x2048x127, .f32⟩
  | 62 => ⟨S1x4x2048x127, .f32⟩
  | 63 => ⟨S1x4x2048x127, .f32⟩
  | 64 => ⟨S1x1x2048x127, .f32⟩
  | 65 => ⟨S1x4x2048x127, .f32⟩
  | 66 => ⟨S1x4x2048x127, .f32⟩
  | 67 => ⟨S_, .f32⟩
  | 68 => ⟨S1x4x2048, .f32⟩
  | 69 => ⟨S1x4x2048x1, .f32⟩
  | 70 => ⟨S_, .f32⟩
  | 71 => ⟨S1x4x2048x1, .f32⟩
  | 72 => ⟨S1x4x2048x1, .f32⟩
  | 73 => ⟨S1x4x2048x127, .f32⟩
  | 74 => ⟨S1x4x2048x127, .f32⟩
  | 75 => ⟨S1x4x2048x128, .f32⟩
  | 76 => ⟨S_, .i32⟩
  | 77 => ⟨S_, .i32⟩
  | 78 => ⟨S127, .i32⟩
  | 79 => ⟨S127, .i32⟩
  | 80 => ⟨S127, .i32⟩
  | 81 => ⟨S_, .i32⟩
  | 82 => ⟨S127, .i32⟩
  | 83 => ⟨S127, .i1⟩
  | 84 => ⟨S127, .i32⟩
  | 85 => ⟨S127, .i32⟩
  | 86 => ⟨S_, .i32⟩
  | 87 => ⟨S127, .i32⟩
  | 88 => ⟨S127, .i1⟩
  | 89 => ⟨S127, .i1⟩
  | 90 => ⟨S_, .i32⟩
  | 91 => ⟨S127, .i32⟩
  | 92 => ⟨S127, .i32⟩
  | 93 => ⟨S127, .i32⟩
  | 94 => ⟨S127x1, .i32⟩
  | 95 => ⟨S1x32, .i32⟩
  | 96 => ⟨S127x32, .i32⟩
  | 97 => ⟨S127x32, .i32⟩
  | 98 => ⟨S127x32, .i1⟩
  | 99 => ⟨S127x32, .f32⟩
  | 100 => ⟨S1x4x2048x32, .f32⟩
  | 101 => ⟨S_, .i32⟩
  | 102 => ⟨S_, .i32⟩
  | 103 => ⟨S2048, .i32⟩
  | 104 => ⟨S2048, .i32⟩
  | 105 => ⟨S2048, .i32⟩
  | 106 => ⟨S_, .i32⟩
  | 107 => ⟨S2048, .i32⟩
  | 108 => ⟨S2048, .i1⟩
  | 109 => ⟨S2048, .i32⟩
  | 110 => ⟨S2048, .i32⟩
  | 111 => ⟨S_, .i32⟩
  | 112 => ⟨S2048, .i32⟩
  | 113 => ⟨S2048, .i1⟩
  | 114 => ⟨S2048, .i1⟩
  | 115 => ⟨S_, .i32⟩
  | 116 => ⟨S2048, .i32⟩
  | 117 => ⟨S2048, .i32⟩
  | 118 => ⟨S2048, .i32⟩
  | 119 => ⟨S2048x1, .i32⟩
  | 120 => ⟨S1x32, .i32⟩
  | 121 => ⟨S2048x32, .i32⟩
  | 122 => ⟨S2048x32, .i32⟩
  | 123 => ⟨S2048x32, .i1⟩
  | 124 => ⟨S2048x32, .f32⟩
  | 125 => ⟨S_, .i32⟩
  | 126 => ⟨S2048, .i32⟩
  | 127 => ⟨S2048x1, .i32⟩
  | _ => ⟨S1x2048x4x128, .f32⟩

abbrev hbmTy0_1 (i : Nat) : BufTy := match i % 128 with
  | 0 => ⟨S1x32, .i32⟩
  | 1 => ⟨S2048x32, .i32⟩
  | 2 => ⟨S2048x32, .i32⟩
  | 3 => ⟨S2048x32, .i1⟩
  | 4 => ⟨S2048x32, .f32⟩
  | 5 => ⟨S1x1x2048x32, .f32⟩
  | 6 => ⟨S_, .f32⟩
  | 7 => ⟨S1x1x2048x32, .f32⟩
  | 8 => ⟨S1x1x2048x32, .f32⟩
  | 9 => ⟨S1x4x2048x32, .f32⟩
  | 10 => ⟨S1x4x2048x32, .f32⟩
  | 11 => ⟨S1x1x2048x32, .f32⟩
  | 12 => ⟨S_, .f32⟩
  | 13 => ⟨S1x1x2048x32, .f32⟩
  | 14 => ⟨S1x1x2048x32, .f32⟩
  | 15 => ⟨S1x4x2048x32, .f32⟩
  | 16 => ⟨S1x4x2048x32, .f32⟩
  | 17 => ⟨S32, .i32⟩
  | 18 => ⟨S_, .i32⟩
  | 19 => ⟨S32, .i32⟩
  | 20 => ⟨S32, .i32⟩
  | 21 => ⟨S1x32, .i32⟩
  | 22 => ⟨S2048x1, .i32⟩
  | 23 => ⟨S2048x32, .i32⟩
  | 24 => ⟨S2048x32, .i32⟩
  | 25 => ⟨S2048x32, .i1⟩
  | 26 => ⟨S1x1x2048x32, .i1⟩
  | 27 => ⟨S_, .f32⟩
  | 28 => ⟨S_, .f32⟩
  | 29 => ⟨S1x4x2048x32, .i1⟩
  | 30 => ⟨S1x4x2048x32, .f32⟩
  | 31 => ⟨S1x4x2048x32, .f32⟩
  | 32 => ⟨S1x4x2048x8, .f32⟩
  | 33 => ⟨S1x4x2048x8, .i32⟩
  | 34 => ⟨S1x4x2048x8x1, .i32⟩
  | 35 => ⟨S1x1x1x1x32, .i32⟩
  | 36 => ⟨S1x4x2048x8x32, .i32⟩
  | 37 => ⟨S1x4x2048x8x32, .i32⟩
  | 38 => ⟨S1x4x2048x8x32, .i1⟩
  | 39 => ⟨S1x4x2048x8x32, .f32⟩
  | 40 => ⟨S_, .f32⟩
  | 41 => ⟨S1x4x2048x32, .f32⟩
  | 42 => ⟨S_, .f32⟩
  | 43 => ⟨S1x4x2048x32, .f32⟩
  | 44 => ⟨S1x4x2048x32, .i1⟩
  | 45 => ⟨S1x4x2048x32x64, .i1⟩
  | 46 => ⟨S1x4x2048x2048, .i1⟩
  | 47 => ⟨S2048x1, .i32⟩
  | 48 => ⟨S1x2048, .i32⟩
  | 49 => ⟨S2048x2048, .i32⟩
  | 50 => ⟨S2048x2048, .i32⟩
  | 51 => ⟨S2048x2048, .i1⟩
  | 52 => ⟨S1x4x2048x2048, .f32⟩
  | 53 => ⟨S_, .f32⟩
  | 54 => ⟨S1x4x2048x2048, .f32⟩
  | 55 => ⟨S1x4x2048x2048, .f32⟩
  | 56 => ⟨S1x1x2048x2048, .i1⟩
  | 57 => ⟨S1x4x2048x2048, .i1⟩
  | 58 => ⟨S1x4x2048x2048, .i1⟩
  | 59 => ⟨S_, .f32⟩
  | 60 => ⟨S_, .f32⟩
  | 61 => ⟨S1x4x2048x2048, .f32⟩
  | 62 => ⟨S1x4x2048x2048, .f32⟩
  | 63 => ⟨S_, .f32⟩
  | 64 => ⟨S1x4x2048, .f32⟩
  | 65 => ⟨S1x4x2048x1, .f32⟩
  | 66 => ⟨S1x4x2048x2048, .f32⟩
  | 67 => ⟨S1x4x2048x2048, .f32⟩
  | 68 => ⟨S1x4x2048x2048, .f32⟩
  | 69 => ⟨S1x4x2048x2048, .f32⟩
  | 70 => ⟨S1x4x2048x2048, .f32⟩
  | 71 => ⟨S_, .f32⟩
  | 72 => ⟨S1x4x2048, .f32⟩
  | 73 => ⟨S1x4x2048x1, .f32⟩
  | 74 => ⟨S_, .f32⟩
  | 75 => ⟨S1x4x2048x1, .f32⟩
  | 76 => ⟨S1x4x2048x1, .f32⟩
  | 77 => ⟨S1x4x2048x2048, .f32⟩
  | 78 => ⟨S1x4x2048x2048, .f32⟩
  | 79 => ⟨S1x4x2048x128, .f32⟩
  | 80 => ⟨S2048x1, .i32⟩
  | 81 => ⟨S1x2048, .i32⟩
  | 82 => ⟨S2048x2048, .i32⟩
  | 83 => ⟨S2048x2048, .i32⟩
  | 84 => ⟨S2048x2048, .i32⟩
  | 85 => ⟨S_, .i32⟩
  | 86 => ⟨S2048x2048, .i32⟩
  | 87 => ⟨S2048x2048, .i1⟩
  | 88 => ⟨S2048x2048, .i1⟩
  | 89 => ⟨S1x1x2048x2048, .i1⟩
  | 90 => ⟨S_, .f32⟩
  | 91 => ⟨S_, .f32⟩
  | 92 => ⟨S1x4x2048x2048, .i1⟩
  | 93 => ⟨S1x4x2048x2048, .f32⟩
  | 94 => ⟨S1x4x2048x2048, .f32⟩
  | 95 => ⟨S_, .f32⟩
  | 96 => ⟨S1x4x2048, .f32⟩
  | 97 => ⟨S1x4x2048x1, .f32⟩
  | 98 => ⟨S1x4x2048x2048, .f32⟩
  | 99 => ⟨S1x4x2048x2048, .f32⟩
  | 100 => ⟨S1x4x2048x2048, .f32⟩
  | 101 => ⟨S1x1x2048x2048, .f32⟩
  | 102 => ⟨S1x4x2048x2048, .f32⟩
  | 103 => ⟨S1x4x2048x2048, .f32⟩
  | 104 => ⟨S_, .f32⟩
  | 105 => ⟨S1x4x2048, .f32⟩
  | 106 => ⟨S1x4x2048x1, .f32⟩
  | 107 => ⟨S_, .f32⟩
  | 108 => ⟨S1x4x2048x1, .f32⟩
  | 109 => ⟨S1x4x2048x1, .f32⟩
  | 110 => ⟨S1x4x2048x2048, .f32⟩
  | 111 => ⟨S1x4x2048x2048, .f32⟩
  | 112 => ⟨S1x4x2048x128, .f32⟩
  | 113 => ⟨S1x2048x4x3, .f32⟩
  | 114 => ⟨S1x1x1x3, .f32⟩
  | 115 => ⟨S1x2048x4x3, .f32⟩
  | 116 => ⟨S1x2048x4x3, .f32⟩
  | 117 => ⟨S1x2048x4x3, .f32⟩
  | 118 => ⟨S1x2048x4x3, .f32⟩
  | 119 => ⟨S_, .f32⟩
  | 120 => ⟨S1x2048x4x3, .f32⟩
  | 121 => ⟨S1x2048x4x3, .f32⟩
  | 122 => ⟨S_, .f32⟩
  | 123 => ⟨S1x2048x4x3, .f32⟩
  | 124 => ⟨S1x2048x4x3, .f32⟩
  | 125 => ⟨S1x4x2048x3, .f32⟩
  | 126 => ⟨S1x4x2048x1, .f32⟩
  | 127 => ⟨S1x4x2048x128, .f32⟩
  | _ => ⟨S1x2048x4x128, .f32⟩

abbrev hbmTy0_2 (i : Nat) : BufTy := match i % 128 with
  | 0 => ⟨S1x4x2048x128, .f32⟩
  | 1 => ⟨S1x4x2048x1, .f32⟩
  | 2 => ⟨S1x4x2048x128, .f32⟩
  | 3 => ⟨S1x4x2048x128, .f32⟩
  | 4 => ⟨S1x4x2048x128, .f32⟩
  | 5 => ⟨S1x4x2048x1, .f32⟩
  | 6 => ⟨S1x4x2048x128, .f32⟩
  | 7 => ⟨S1x4x2048x128, .f32⟩
  | 8 => ⟨S1x4x2048x128, .f32⟩
  | 9 => ⟨S1x2048x4x128, .f32⟩
  | _ => ⟨S1x2048x4x128, .f32⟩

abbrev hbmTy (i : Nat) : BufTy := match i / 128 with
  | 0 => hbmTy0_0 i
  | 1 => hbmTy0_1 i
  | 2 => hbmTy0_2 i
  | _ => ⟨S1x2048x4x128, .f32⟩

abbrev bufTy : (tb : Table) → Fin (tcTables nBuf tb) → BufTy
  | .hbm, ⟨i, _⟩ => hbmTy i
  | _, _ => ⟨S1x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_8 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_c : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_0 : Ref sig .tc := ⟨.hbm, 90, rfl⟩
abbrev main_call1_v12 : Ref sig .tc := ⟨.hbm, 91, rfl⟩
abbrev main_call1_v13 : Ref sig .tc := ⟨.hbm, 92, rfl⟩
abbrev main_v56 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v57 : Ref sig .tc := ⟨.hbm, 99, rfl⟩
abbrev main_v58 : Ref sig .tc := ⟨.hbm, 100, rfl⟩
abbrev main_c_9 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_c : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_0 : Ref sig .tc := ⟨.hbm, 115, rfl⟩
abbrev main_call3_v12 : Ref sig .tc := ⟨.hbm, 116, rfl⟩
abbrev main_call3_v13 : Ref sig .tc := ⟨.hbm, 117, rfl⟩
abbrev main_v59 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_v60 : Ref sig .tc := ⟨.hbm, 124, rfl⟩
abbrev main_c_10 : Ref sig .tc := ⟨.hbm, 125, rfl⟩
abbrev main_v61 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_v62 : Ref sig .tc := ⟨.hbm, 132, rfl⟩
abbrev main_v63 : Ref sig .tc := ⟨.hbm, 133, rfl⟩
abbrev main_cst_11 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_cst_12 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_c_13 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_cst_14 : Ref sig .tc := ⟨.hbm, 155, rfl⟩
abbrev main_call6_v0 : Ref sig .tc := ⟨.hbm, 156, rfl⟩
abbrev main_call6_v1 : Ref sig .tc := ⟨.hbm, 157, rfl⟩
abbrev main_call6_v2 : Ref sig .tc := ⟨.hbm, 158, rfl⟩
abbrev main_v82 : Ref sig .tc := ⟨.hbm, 159, rfl⟩
abbrev main_values : Ref sig .tc := ⟨.hbm, 160, rfl⟩
abbrev main_indices : Ref sig .tc := ⟨.hbm, 161, rfl⟩
abbrev main_call7_v0 : Ref sig .tc := ⟨.hbm, 162, rfl⟩
abbrev main_call7_v1 : Ref sig .tc := ⟨.hbm, 163, rfl⟩
abbrev main_call7_v2 : Ref sig .tc := ⟨.hbm, 164, rfl⟩
abbrev main_call7_v3 : Ref sig .tc := ⟨.hbm, 165, rfl⟩
abbrev main_call7_v4 : Ref sig .tc := ⟨.hbm, 166, rfl⟩
abbrev main_v83 : Ref sig .tc := ⟨.hbm, 167, rfl⟩
abbrev main_cst_15 : Ref sig .tc := ⟨.hbm, 168, rfl⟩
abbrev main_v84 : Ref sig .tc := ⟨.hbm, 169, rfl⟩
abbrev main_cst_16 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_cst_17 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_cst_18 : Ref sig .tc := ⟨.hbm, 187, rfl⟩
abbrev main_call8_v0 : Ref sig .tc := ⟨.hbm, 188, rfl⟩
abbrev main_call8_v1 : Ref sig .tc := ⟨.hbm, 189, rfl⟩
abbrev main_v100 : Ref sig .tc := ⟨.hbm, 190, rfl⟩
abbrev main_cst_19 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_cst_20 : Ref sig .tc := ⟨.hbm, 199, rfl⟩
abbrev main_v108 : Ref sig .tc := ⟨.hbm, 200, rfl⟩
abbrev main_v109 : Ref sig .tc := ⟨.hbm, 201, rfl⟩
abbrev main_cst_21 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_c_22 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_cst_23 : Ref sig .tc := ⟨.hbm, 218, rfl⟩
abbrev main_call9_v0 : Ref sig .tc := ⟨.hbm, 219, rfl⟩
abbrev main_call9_v1 : Ref sig .tc := ⟨.hbm, 220, rfl⟩
abbrev main_call9_v2 : Ref sig .tc := ⟨.hbm, 221, rfl⟩
abbrev main_v124 : Ref sig .tc := ⟨.hbm, 222, rfl⟩
abbrev main_cst_24 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_cst_25 : Ref sig .tc := ⟨.hbm, 232, rfl⟩
abbrev main_v133 : Ref sig .tc := ⟨.hbm, 233, rfl⟩
abbrev main_v134 : Ref sig .tc := ⟨.hbm, 234, rfl⟩
abbrev main_cst_26 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_cst_27 : Ref sig .tc := ⟨.hbm, 247, rfl⟩
abbrev main_v146 : Ref sig .tc := ⟨.hbm, 248, rfl⟩
abbrev main_v147 : Ref sig .tc := ⟨.hbm, 249, rfl⟩
abbrev main_cst_28 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩

abbrev nD : Nat := 1
abbrev τ : Topo := Topo.v7x

variable {F : FTy → Type} [FloatOps F]
-- ==== Proof.IdealRun.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Pipeline.Value
public import Idealize.ShloMosaic.Lib.VecWindow
public import Idealize.ShloMosaic.Lib.Tactic

@[expose] public section

/-! # What one grid point computes

The kernel's body at a grid point, as one function of the blocks it reads (`outV`), and the body run once: it leaves its inputs as
they were, the two pooled scratch blocks at `ckV` and `cvV` (made at the head's first point, kept at the others), the score scratch at
anything, and the output block at `outV`. The score scratch's earlier contents `f10` occur in `outV` only as what lies outside the
columns the point writes. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- The pooled keys: made from the head's keys at the head's first point, kept afterwards. -/
def ckV (i : grid0.Coords) (x3 : Vec F S2048x128 .f32) (x5 : Vec F S128x2048 .bf16) (x11 : Vec F S128x128 .f32) : Vec F S128x128 .f32 :=
  if (i 1).val = 0 then k0_pay3 x3 x5 else x11

/-- The pooled values, likewise. -/
def cvV (i : grid0.Coords) (x4 : Vec F S2048x128 .f32) (x6 : Vec F S128x2048 .bf16) (x12 : Vec F S128x128 .f32) : Vec F S128x128 .f32 :=
  if (i 1).val = 0 then k0_pay4 x4 x6 else x12

/-- The block numbers 0 … 31 along each row. -/
def blkI : IVec S256x32 32 := iota .tc S256x32 32 [1] iota_S256x32_d1_w32

/-- The sign words of the block length 64. -/
def sg1 : BitVec 32 := Scalar.extui (Scalar.cmpi .sgt 64#32 0#32)
def sg2 : BitVec 1 := Scalar.cmpi .slt 64#32 0#32

/-- The selection scores of the 32 blocks, from the compressed weights. -/
def pSel (i : grid0.Coords) (pc : FVec F S256x128 .f32) : FVec F S256x32 .f32 :=
  k0_pay10 (k0_pay2 i) (k0_pay7 pc) blkI 64#32 (k0_pay8 (k0_pay2 i)) (k0_pay9 (k0_pay2 i)) sg1 sg2

/-- The mask and the scores after the first choice; -/
def mask1 (i : grid0.Coords) (pc : FVec F S256x128 .f32) : FVec F S256x32 .f32 :=
  k0_pay12 (k0_pay2 i) (k0_pay7 pc) blkI 64#32 (k0_pay8 (k0_pay2 i)) (k0_pay9 (k0_pay2 i)) sg1 sg2
def rest1 (i : grid0.Coords) (pc : FVec F S256x128 .f32) : FVec F S256x32 .f32 :=
  k0_pay13 (k0_pay2 i) (k0_pay7 pc) blkI 64#32 (k0_pay8 (k0_pay2 i)) (k0_pay9 (k0_pay2 i)) sg1 sg2
/-- after the fourth; -/
def mask4 (i : grid0.Coords) (pc : FVec F S256x128 .f32) : FVec F S256x32 .f32 := k0_pay19 blkI (mask1 i pc) (rest1 i pc)
def rest4 (i : grid0.Coords) (pc : FVec F S256x128 .f32) : FVec F S256x32 .f32 := k0_pay20 blkI (rest1 i pc)
def top4 (i : grid0.Coords) (pc : FVec F S256x128 .f32) : FVec F S256x1 .f32 := k0_pay21 blkI (rest1 i pc)
/-- and after the eighth: the chosen blocks. -/
def selM (i : grid0.Coords) (pc : FVec F S256x128 .f32) : FVec F S256x32 .f32 :=
  k0_pay29 blkI (k0_pay27 blkI (mask4 i pc) (rest4 i pc) (top4 i pc)) (k0_pay28 blkI (rest4 i pc) (top4 i pc)) 32#32

/-- The row and column numbers of the tiles' index tables. -/
def rowI : IVec S32x1024 32 := iota .tc S32x1024 32 [0] iota_S32x1024_d0_w32
def colI : IVec S256x1024 32 := iota .tc S256x1024 32 [1] iota_S256x1024_d1_w32

/-- The second coordinate as the word the kernel reads. -/
def w1 (i : grid0.Coords) : BitVec 32 := BitVec.ofNat 32 (i 1).val
def w257 (i : grid0.Coords) : BitVec 32 := Scalar.subi (Scalar.addi (Scalar.muli (Scalar.addi (w1 i) 1#32) 256#32) 1024#32) 1#32
def w258 (i : grid0.Coords) : BitVec 32 := Scalar.divsi (w257 i) 1024#32
def w260 (i : grid0.Coords) : BitVec 32 := Scalar.extui (Scalar.cmpi .sgt (w257 i) 0#32)
def w262 (i : grid0.Coords) : BitVec 32 := Scalar.extui (Scalar.cmpi .slt (w257 i) 0#32)
/-- The number of key tiles. -/
def w274 (i : grid0.Coords) : BitVec 32 :=
  Scalar.select (Scalar.andi (Scalar.cmpi .ne (Scalar.subi (w260 i) (w262 i))
      (Scalar.subi (Scalar.extui (Scalar.cmpi .sgt 1024#32 0#32)) (Scalar.extui (Scalar.cmpi .slt 1024#32 0#32))))
    (Scalar.cmpi .ne (Scalar.remsi (w257 i) 1024#32) 0#32)) (Scalar.subi (w258 i) 1#32) (w258 i)
/-- The window band's first column. -/
def w285 (i : grid0.Coords) : BitVec 32 := Scalar.muli (Scalar.maxsi (Scalar.subi (w1 i) 1#32) 0#32) 256#32

section Point

variable (c : Dev nD) (i : grid0.Coords)
    (arg2 : Memref sig .tc .vmem S256x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S128x2048 .bf16) (harg5 : arg5.IsWhole)
    (arg6 : Memref sig .tc .vmem S128x2048 .bf16) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S256x128 .f32) (harg9 : arg9.IsWhole)
    (arg10 : Memref sig .tc .vmem S256x2048 .f32) (harg10 : arg10.IsWhole)
    (arg11 : Memref sig .tc .vmem S128x128 .f32) (harg11 : arg11.IsWhole)
    (arg12 : Memref sig .tc .vmem S128x128 .f32) (harg12 : arg12.IsWhole)
    (x2 : Vec F S256x128 .f32)
    (x3 : Vec F S2048x128 .f32)
    (x4 : Vec F S2048x128 .f32)
    (x5 : Vec F S128x2048 .bf16)
    (x6 : Vec F S128x2048 .bf16)
    (x7 : Vec F S128x128 .f32)
    (x8 : Vec F S1x128 .f32)
    (f10 : BufTy.Contents (Elt F) arg10.view.ty) (ck cv : Vec F S128x128 .f32)

/-- The first loop's state after all its trips: the running maximum and the score tiles stored. -/
def runA : FVec F S256x1 .f32 × List (View.Piece (Elt F) S256x2048 .f32) :=
  st_k0_t1 Variants.none c none i arg2 harg2 arg3 harg3 arg4 harg4 arg5 harg5 arg6 harg6 arg7 harg7 arg8 harg8 arg9 harg9 arg10 harg10 arg11 harg11 arg12 harg12 (w1 i) (k0_pay1 x2) (k0_pay2 i) (selM i (k0_pay5 i x2 ck)) rowI k0_pay30 colI (w257 i) 1024#32
    (w258 i) (w260 i) (w262 i) (harg3.unread x3) k0_pay31 (Scf.trips (k0_t1_loop i).lb (k0_t1_loop i).ub (k0_t1_loop i).st)
/-- and after the remainder loop. -/
def runB : FVec F S256x1 .f32 × List (View.Piece (Elt F) S256x2048 .f32) :=
  st_k0_t2 Variants.none c none i arg2 harg2 arg3 harg3 arg4 harg4 arg5 harg5 arg6 harg6 arg7 harg7 arg8 harg8 arg9 harg9 arg10 harg10 arg11 harg11 arg12 harg12 (w1 i) (k0_pay1 x2) (k0_pay2 i) (selM i (k0_pay5 i x2 ck)) rowI k0_pay30 colI (w257 i) 1024#32
    (w258 i) (w260 i) (w262 i) (harg3.unread x3) (runA c i arg2 harg2 arg3 harg3 arg4 harg4 arg5 harg5 arg6 harg6 arg7 harg7 arg8 harg8 arg9 harg9 arg10 harg10 arg11 harg11 arg12 harg12 x2 x3 ck).1 (Scf.trips (k0_t2_loop i).lb (k0_t2_loop i).ub (k0_t2_loop i).st)
/-- The score scratch after both. -/
def scrV : BufTy.Contents (Elt F) arg10.view.ty :=
  arg10.view.writes (Elt F) f10 ((runB c i arg2 harg2 arg3 harg3 arg4 harg4 arg5 harg5 arg6 harg6 arg7 harg7 arg8 harg8 arg9 harg9 arg10 harg10 arg11 harg11 arg12 harg12 x2 x3 ck).2 ++ (runA c i arg2 harg2 arg3 harg3 arg4 harg4 arg5 harg5 arg6 harg6 arg7 harg7 arg8 harg8 arg9 harg9 arg10 harg10 arg11 harg11 arg12 harg12 x2 x3 ck).2)
/-- The window's weights before division, its mask. -/
def winE : FVec F S256x512 .f32 :=
  k0_pay39 (w1 i) (k0_pay2 i) (View.readAt (Elt F) arg10.view (Rect.unit (s := S256x2048) (k0_off5 i) S256x512.size (k0_off5_inb i)).toLoadRect
    (scrV c i arg2 harg2 arg3 harg3 arg4 harg4 arg5 harg5 arg6 harg6 arg7 harg7 arg8 harg8 arg9 harg9 arg10 harg10 arg11 harg11 arg12 harg12 x2 x3 f10 ck))
/-- The second pass's state after its loops: the accumulated values and the accumulated weights. -/
def runC : FVec F S256x128 .f32 × FVec F S256x1 .f32 :=
  st_k0_t3 Variants.none c none i arg2 harg2 arg3 harg3 arg4 harg4 arg5 harg5 arg6 harg6 arg7 harg7 arg8 harg8 arg9 harg9 arg10 harg10 arg11 harg11 arg12 harg12 (k0_pay1 x2) (k0_pay2 i) (k0_pay6 i x2 ck cv) (selM i (k0_pay5 i x2 ck)) rowI k0_pay30 colI (w274 i)
    (runB c i arg2 harg2 arg3 harg3 arg4 harg4 arg5 harg5 arg6 harg6 arg7 harg7 arg8 harg8 arg9 harg9 arg10 harg10 arg11 harg11 arg12 harg12 x2 x3 ck).1 (w285 i) (k0_pay38 (w1 i) (k0_pay2 i)) (winE c i arg2 harg2 arg3 harg3 arg4 harg4 arg5 harg5 arg6 harg6 arg7 harg7 arg8 harg8 arg9 harg9 arg10 harg10 arg11 harg11 arg12 harg12 x2 x3 f10 ck) (k0_pay40 (F := F))
    (harg4.unread x4) (scrV c i arg2 harg2 arg3 harg3 arg4 harg4 arg5 harg5 arg6 harg6 arg7 harg7 arg8 harg8 arg9 harg9 arg10 harg10 arg11 harg11 arg12 harg12 x2 x3 f10 ck) (k0_pay41, k0_pay42) (Scf.trips (k0_t3_loop i).lb (k0_t3_loop i).ub (k0_t3_loop i).st)
def runD : FVec F S256x128 .f32 × FVec F S256x1 .f32 :=
  st_k0_t4 Variants.none c none i arg2 harg2 arg3 harg3 arg4 harg4 arg5 harg5 arg6 harg6 arg7 harg7 arg8 harg8 arg9 harg9 arg10 harg10 arg11 harg11 arg12 harg12 (k0_pay1 x2) (k0_pay2 i) (k0_pay6 i x2 ck cv) (selM i (k0_pay5 i x2 ck)) rowI k0_pay30 colI (w274 i)
    (runB c i arg2 harg2 arg3 harg3 arg4 harg4 arg5 harg5 arg6 harg6 arg7 harg7 arg8 harg8 arg9 harg9 arg10 harg10 arg11 harg11 arg12 harg12 x2 x3 ck).1 (w285 i) (k0_pay38 (w1 i) (k0_pay2 i)) (winE c i arg2 harg2 arg3 harg3 arg4 harg4 arg5 harg5 arg6 harg6 arg7 harg7 arg8 harg8 arg9 harg9 arg10 harg10 arg11 harg11 arg12 harg12 x2 x3 f10 ck) (k0_pay40 (F := F))
    (harg4.unread x4) (scrV c i arg2 harg2 arg3 harg3 arg4 harg4 arg5 harg5 arg6 harg6 arg7 harg7 arg8 harg8 arg9 harg9 arg10 harg10 arg11 harg11 arg12 harg12 x2 x3 f10 ck) (runC c i arg2 harg2 arg3 harg3 arg4 harg4 arg5 harg5 arg6 harg6 arg7 harg7 arg8 harg8 arg9 harg9 arg10 harg10 arg11 harg11 arg12 harg12 x2 x3 x4 f10 ck cv) (Scf.trips (k0_t4_loop i).lb (k0_t4_loop i).ub (k0_t4_loop i).st)
/-- The output block. -/
def outV : FVec F S256x128 .f32 :=
  k0_pay49 (k0_pay1 x2) (k0_pay6 i x2 ck cv) (k0_pay38 (w1 i) (k0_pay2 i)) (winE c i arg2 harg2 arg3 harg3 arg4 harg4 arg5 harg5 arg6 harg6 arg7 harg7 arg8 harg8 arg9 harg9 arg10 harg10 arg11 harg11 arg12 harg12 x2 x3 f10 ck) (k0_pay40 (F := F))
    (View.readAt (Elt F) arg4.view (Rect.unit (s := S2048x128) (k0_off6 i) S512x128.size (k0_off6_inb i)).toLoadRect (harg4.unread x4))
    (runD c i arg2 harg2 arg3 harg3 arg4 harg4 arg5 harg5 arg6 harg6 arg7 harg7 arg8 harg8 arg9 harg9 arg10 harg10 arg11 harg11 arg12 harg12 x2 x3 x4 f10 ck cv).1 (runD c i arg2 harg2 arg3 harg3 arg4 harg4 arg5 harg5 arg6 harg6 arg7 harg7 arg8 harg8 arg9 harg9 arg10 harg10 arg11 harg11 arg12 harg12 x2 x3 x4 f10 ck cv).2 x7 x8

end Point

theorem guard_iff (i : grid0.Coords) :
    Scalar.cmpi .ne (Scalar.extui (Scalar.cmpi .eq (BitVec.ofNat 32 (i 1).val) 0#32) : BitVec 32) 0#32 = 1#1 ↔ (i 1).val = 0 := by
  have h : ∀ a : Fin 8, Scalar.cmpi .ne (Scalar.extui (Scalar.cmpi .eq (BitVec.ofNat 32 a.val) 0#32) : BitVec 32) 0#32 = 1#1 ↔ a.val = 0 := by
    decide +kernel
  exact h (i 1)

set_option maxHeartbeats 2000000 in
theorem kernelRun (c : Dev nD) (i : grid0.Coords)
    (arg2 : Memref sig .tc .vmem S256x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S128x2048 .bf16) (harg5 : arg5.IsWhole)
    (arg6 : Memref sig .tc .vmem S128x2048 .bf16) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S256x128 .f32) (harg9 : arg9.IsWhole)
    (arg10 : Memref sig .tc .vmem S256x2048 .f32) (harg10 : arg10.IsWhole)
    (arg11 : Memref sig .tc .vmem S128x128 .f32) (harg11 : arg11.IsWhole)
    (arg12 : Memref sig .tc .vmem S128x128 .f32) (harg12 : arg12.IsWhole)
    (x2 : Vec F S256x128 .f32)
    (x3 : Vec F S2048x128 .f32)
    (x4 : Vec F S2048x128 .f32)
    (x5 : Vec F S128x2048 .bf16)
    (x6 : Vec F S128x2048 .bf16)
    (x7 : Vec F S128x128 .f32)
    (x8 : Vec F S1x128 .f32) (x11 x12 : Vec F S128x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
      ∗ (∃ d, owns (c : Thread nD τ) arg9 fullShare d) ∗ (∃ d, owns (c : Thread nD τ) arg10 fullShare d) ∗ owns (c : Thread nD τ) arg11 fullShare x11 ∗ owns (c : Thread nD τ) arg12 fullShare x12
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
          ∗ (∃ f10, owns (c : Thread nD τ) arg9 fullShare (outV c i arg2 harg2 arg3 harg3 arg4 harg4 arg5 harg5 arg6 harg6 arg7 harg7 arg8 harg8 arg9 harg9 arg10 harg10 arg11 harg11 arg12 harg12 x2 x3 x4 x7 x8 f10 (ckV i x3 x5 x11) (cvV i x4 x6 x12)))
          ∗ (∃ d, owns (c : Thread nD τ) arg10 fullShare d) ∗ owns (c : Thread nD τ) arg11 fullShare (ckV i x3 x5 x11) ∗ owns (c : Thread nD τ) arg12 fullShare (cvV i x4 x6 x12)) -∗ K ⟨⟩))
    ⊢ wp frame (wpE (defs₀ (F := F)) Variants.none c none) Set.univ
      (cc0__nsa_body (F := F) i arg2 harg2 arg3 harg3 arg4 harg4 arg5 harg5 arg6 harg6 arg7 harg7 arg8 harg8 arg9 harg9 arg10 harg10 arg11 harg11 arg12 harg12) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩,
    ⟨%d9, %f9, -, H9⟩, ⟨%d10, %f10, -, H10⟩, ⟨%f11, %h11, H11⟩, ⟨%f12, %h12, H12⟩, Hk⟩
  obtain rfl := harg2.eq_unread h2; obtain rfl := harg3.eq_unread h3; obtain rfl := harg4.eq_unread h4
  obtain rfl := harg5.eq_unread h5; obtain rfl := harg6.eq_unread h6; obtain rfl := harg7.eq_unread h7
  obtain rfl := harg8.eq_unread h8; obtain rfl := harg11.eq_unread h11; obtain rfl := harg12.eq_unread h12
  have e2 : View.readAt (Elt F) arg2.view (Rect.unit (s := S256x128) ![0, 0] ![256, 128] inb_S256x128_S256x128_0_0).toLoadRect (harg2.unread x2) = x2 :=
    (View.readAt_full arg2.view (harg2.unread x2) inb_S256x128_S256x128_0_0).trans h2
  have e3 : View.readAt (Elt F) arg3.view (Rect.unit (s := S2048x128) ![0, 0] ![2048, 128] inb_S2048x128_S2048x128_0_0).toLoadRect (harg3.unread x3) = x3 :=
    (View.readAt_full arg3.view (harg3.unread x3) inb_S2048x128_S2048x128_0_0).trans h3
  have e4 : View.readAt (Elt F) arg4.view (Rect.unit (s := S2048x128) ![0, 0] ![2048, 128] inb_S2048x128_S2048x128_0_0).toLoadRect (harg4.unread x4) = x4 :=
    (View.readAt_full arg4.view (harg4.unread x4) inb_S2048x128_S2048x128_0_0).trans h4
  have e5 : View.readAt (Elt F) arg5.view (Rect.unit (s := S128x2048) ![0, 0] ![128, 2048] inb_S128x2048_S128x2048_0_0).toLoadRect (harg5.unread x5) = x5 :=
    (View.readAt_full arg5.view (harg5.unread x5) inb_S128x2048_S128x2048_0_0).trans h5
  have e6 : View.readAt (Elt F) arg6.view (Rect.unit (s := S128x2048) ![0, 0] ![128, 2048] inb_S128x2048_S128x2048_0_0).toLoadRect (harg6.unread x6) = x6 :=
    (View.readAt_full arg6.view (harg6.unread x6) inb_S128x2048_S128x2048_0_0).trans h6
  have e7 : View.readAt (Elt F) arg7.view (Rect.unit (s := S128x128) ![0, 0] ![128, 128] inb_S128x128_S128x128_0_0).toLoadRect (harg7.unread x7) = x7 :=
    (View.readAt_full arg7.view (harg7.unread x7) inb_S128x128_S128x128_0_0).trans h7
  have e8 : View.readAt (Elt F) arg8.view (Rect.unit (s := S1x128) ![0, 0] ![1, 128] inb_S1x128_S1x128_0_0).toLoadRect (harg8.unread x8) = x8 :=
    (View.readAt_full arg8.view (harg8.unread x8) inb_S1x128_S1x128_0_0).trans h8
  have e11 : View.readAt (Elt F) arg11.view (Rect.unit (s := S128x128) ![0, 0] ![128, 128] inb_S128x128_S128x128_0_0).toLoadRect (harg11.unread x11) = x11 :=
    (View.readAt_full arg11.view (harg11.unread x11) inb_S128x128_S128x128_0_0).trans h11
  have e12 : View.readAt (Elt F) arg12.view (Rect.unit (s := S128x128) ![0, 0] ![128, 128] inb_S128x128_S128x128_0_0).toLoadRect (harg12.unread x12) = x12 :=
    (View.readAt_full arg12.view (harg12.unread x12) inb_S128x128_S128x128_0_0).trans h12
  simp only [cc0__nsa_body_eq_skeleton]; unfold cc0__nsa_body_skel
  simp only [k0_part1_eq_skeleton, k0_part8_eq_skeleton]; unfold k0_part1_skel
  by_cases h0 : (i 1).val = 0
  · have hg := (guard_iff i).2 h0
    have hck : ckV i x3 x5 x11 = k0_pay3 x3 x5 := if_pos h0
    have hcv : cvV i x4 x6 x12 = k0_pay4 x4 x6 := if_pos h0
    have c11 : ∀ w : Vec F S128x128 .f32, arg11.view.readCov [(⟨Rect.unit (s := S128x128) ![0, 0] ![128, 128] inb_S128x128_S128x128_0_0, w⟩ : View.Piece (Elt F) S128x128 .f32)]
        (Rect.unit (s := S128x128) ![0, 0] ![128, 128] inb_S128x128_S128x128_0_0).toLoadRect = w := fun w => View.readCov_full arg11.view _ _ w []
    have c12 : ∀ w : Vec F S128x128 .f32, arg12.view.readCov [(⟨Rect.unit (s := S128x128) ![0, 0] ![128, 128] inb_S128x128_S128x128_0_0, w⟩ : View.Piece (Elt F) S128x128 .f32)]
        (Rect.unit (s := S128x128) ![0, 0] ![128, 128] inb_S128x128_S128x128_0_0).toLoadRect = w := fun w => View.readCov_full arg12.view _ _ w []
    sl_exec
    sl_step
    iapply Hk
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists f10; iexists _; isplitr; swap; · iexact H9
      ipureintro
      refine (View.read_writes_full _ _ _ _ _).trans ?_
      rw [hck, hcv]
      sl_unfold_words
      simp only [e2, e7, e8, c11, c12, e3, e4, e5, e6]
      rfl
    isplitl [H10]
    · iexists _, _; isplitr; swap; · iexact H10
      ipureintro; rfl
    isplitl [H11]
    · iexists _; isplitr; swap; · iexact H11
      ipureintro; rw [hck]
      exact (View.read_writes_full _ _ _ _ _).trans (by simp only [View.readAt_full, harg3.read_unread, harg4.read_unread, harg5.read_unread, harg6.read_unread])
    iexists _; isplitr; swap; · iexact H12
    ipureintro; rw [hcv]
    exact (View.read_writes_full _ _ _ _ _).trans (by simp only [View.readAt_full, harg3.read_unread, harg4.read_unread, harg5.read_unread, harg6.read_unread])
  · have hg := (guard_iff i).not.2 h0
    have hck : ckV i x3 x5 x11 = x11 := if_neg h0
    have hcv : cvV i x4 x6 x12 = x12 := if_neg h0
    sl_exec
    sl_step
    iapply Hk
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists f10; iexists _; isplitr; swap; · iexact H9
      ipureintro
      refine (View.read_writes_full _ _ _ _ _).trans ?_
      rw [hck, hcv]
      sl_unfold_words
      simp only [e2, e7, e8, e11, e12]
      rfl
    isplitl [H10]
    · iexists _, _; isplitr; swap; · iexact H10
      ipureintro; rfl
    isplitl [H11]
    · iexists _; isplitr; swap; · iexact H11
      ipureintro; rw [hck]
      exact h11
    iexists _; isplitr; swap; · iexact H12
    ipureintro; rw [hcv]
    exact h12

end Cert.KernelIdeal.Hand

end
-- ==== Proof.IdealFrame.lean ====
module

public import proofs.«01_k».proof.Proof.IdealRun

@[expose] public section

/-! # The kernel runs and leaves its arguments alone

The output block is named nowhere here: each point's body is run by `kernelRun`, whose result block and scratch blocks are taken at
whatever they are. The launch theorem then says that the run ends, with every argument as launched and every counter at zero. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- The launch invariant: the three scratch buffers at any contents, and the random-number register. -/
theorem PhiA0_eq (c : Dev nD) :
    (Pipeline.ΦA (Val := Elt F) (U := UR sig nD τ) spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ ∃ r, prngReg c r) := by
  unfold Pipeline.ΦA
  rw [scopedRest0_eq]
  simp only [owns_whole]

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

section Frame

variable (m : (ℓ : Loc nD τ sig) → Buf (Elt F) ℓ) (ρ : Dev nD → PrngReg)

/-- The output window is the one left unnamed. -/
def forgets0 : Fin 8 → Bool := fun w => w == 7

/-- The proof data: the arrays as the region finds them, the inputs' blocks left in place, the output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d))

/-- Every input's staging buffer holds its block at every point. -/
theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  dsimp only [dats]
  iintro ⟨⟨⟨HA, ⟨%d11, HB⟩, ⟨%d12, HC⟩⟩, Hg⟩, HO, ⟨%_, H0⟩, ⟨%_, H1⟩, ⟨%_, H2⟩, ⟨%_, H3⟩, ⟨%_, H4⟩, ⟨%_, H5⟩, ⟨%_, H6⟩, H7⟩
  iapply (kernelRun c (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) d11 d12 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  isplitl [HB]; · iexact HB
  isplitl [HC]; · iexact HC
  iintro ⟨H0, H1, H2, H3, H4, H5, H6, ⟨%f10, H7⟩, HA, HB, HC⟩
  isplitl [HA HB HC Hg]
  · isplitl [HA HB HC]
    · isplitl [HA]; · iexact HA
      isplitl [HB]; · iexists _; iexact HB
      iexists _; iexact HC
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- The launch's obligation on the body, the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-- The one buffer written after the region: the result. -/
def tailWrites : Finset (Ref sig .tc) := {main_v0}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  rw [List.mem_singleton] at hops; subst hops
  simp only [hostOps1, List.mem_singleton] at hop
  subst hop
  simp only [StableHlo.reshape_writes, Finset.mem_singleton] at hb
  rw [Proc.devRef_injective _ hb]
  exact Finset.mem_singleton_self _

set_option backward.isDefEq.respectTransparency.types false in
/-- From any memory with zero counters every run of @main ends, every unscoped buffer but the result as the region found it, and every
    counter at zero. -/
theorem run_main :
    θ_run defs (onTc (τ := τ) (main (F := F))) (s₀ m ρ)
      (fun r => Pipeline.RDat.FramePostR (cfgs 0) (fun c => (dats m 0 c).toRForget forgets0) tailWrites (V m) r ∧ r.2.sem = fun _ => 0) :=
  Pipeline.θ_run_frame_around_T_forget (Q' := _) cfgs (dats m) (0 : Fin 1) launch0 defs₀ Variants.none forgets0 tailWrites m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The run ends with every argument as launched and every counter at zero. -/
theorem frame_main :
    θ_run defs (onTc (τ := τ) (main (F := F))) (s₀ m ρ)
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
        ∧ r.2.sem = fun _ => 0) :=
  (θ_run defs _ _).mono (fun r h => ⟨fun c =>
    have hr (b : Ref sig .tc) (hs : b.isScoped = false) (ha : ∀ w, (spec0 w).arr.view.ref ≠ b) (hb : b ∉ tailWrites)
        (hV : V m c b = m ((c : Thread nD τ).loc b)) : r.2.mem ((c : Thread nD τ).loc b) = m ((c : Thread nD τ).loc b) :=
      (((h.1 c).2 b (Finset.mem_sdiff.mpr ⟨Pipeline.mem_restRefs_of b hs ha, hb⟩))).trans hV
    ⟨hr main_arg0 (by decide) (by decide) (by decide) (V_main_arg0 m c), hr main_arg1 (by decide) (by decide) (by decide) (V_main_arg1 m c),
      hr main_arg2 (by decide) (by decide) (by decide) (V_main_arg2 m c), hr main_arg3 (by decide) (by decide) (by decide) (V_main_arg3 m c),
      hr main_arg4 (by decide) (by decide) (by decide) (V_main_arg4 m c), hr main_arg5 (by decide) (by decide) (by decide) (V_main_arg5 m c),
      hr main_arg6 (by decide) (by decide) (by decide) (V_main_arg6 m c)⟩, h.2⟩) (run_main m ρ)

end Frame

end Cert.KernelIdeal.Hand

end
-- ==== Proof.Spec.lean ====
module

public import Idealize.ShloMosaic.PureOps.Ideal.Laws
public import Idealize.ShloMosaic.Lib.ValueIdx

@[expose] public section

/-! # One row of the attention, written out

The output row at position `t` of one head, as a function of the row's query `q`, the head's keys `K` and values `V`, the pooled keys `CK` and
pooled values `CV` and the row's three gates. Everything is over the extended reals. A masked entry of a softmax is `⊥` under the
maximum and `0` afterwards. -/

noncomputable section

namespace Cert.Nsa

open Idealize.ShloMosaic

/-- The scale `1/√128`, as the literal both programs carry. -/
def scl : EReal := Ideal.ofBits .f32 0x3DB504F3#32
/-- The least denominator, `1e-30`. -/
def eps : EReal := Ideal.ofBits .f32 0x0DA24260#32
/-- What a row's own block is worth in the selection, `1e6`. -/
def ownW : EReal := Ideal.ofBits .f32 0x49742400#32
/-- What the first block is worth in the selection, `5e5`. -/
def firstW : EReal := Ideal.ofBits .f32 0x48F42400#32

section Softmax

variable {ι : Type} [Fintype ι] (P : ι → Prop) [DecidablePred P] (s : ι → EReal)

/-- The greatest score among those the mask lets through. -/
def smax : EReal := Finset.univ.sup fun i => if P i then s i else ⊥
/-- The softmax's numerator, `0` where masked. -/
def snum (i : ι) : EReal := if P i then Ideal.exp (s i - smax P s) else 0
/-- Its denominator, kept off `0`. -/
def sden : EReal := max (∑ i, snum P s i) eps

end Softmax

/-- The score of query row `q` against key row `k`. -/
def score (q k : Fin 128 → EReal) : EReal := (∑ d, q d * k d) * scl

/-- Pooling: block `n` weighs the 32 rows from row `16 n` on. -/
def pool (w : Fin 32 → EReal) (K : Fin 2048 → Fin 128 → EReal) (n : Fin 127) (d : Fin 128) : EReal :=
  ∑ k : Fin 32, w k * K ⟨16 * n.val + k.val, by omega⟩ d

/-- Pooled block `n` has started by position `t`. -/
abbrev cmpMask (t : ℕ) (n : Fin 127) : Prop := 16 * n.val ≤ t

variable (q : Fin 128 → EReal) (t : ℕ) (K V : Fin 2048 → Fin 128 → EReal) (CK CV : Fin 127 → Fin 128 → EReal)

/-- The softmax over the pooled blocks. -/
def cmpP (n : Fin 127) : EReal :=
  Ideal.div (snum (cmpMask t) (fun n => score q (CK n)) n) (sden (cmpMask t) fun n => score q (CK n))

/-- The pooled branch. -/
def cmpOut (d : Fin 128) : EReal := ∑ n, cmpP q t CK n * CV n d

/-- Selection block `m`'s worth: the weights of its four pooled blocks, and what is added for the row's own block and the first one;
    a block that starts after `t` is worth `⊥`. -/
def worth (m : Fin 32) : EReal :=
  if t < m.val * 64 then ⊥
  else (∑ n : Fin 127, cmpP q t CK n * (if n.val / 4 = m.val then 1 else 0)) + ownW * (if t / 64 = m.val then 1 else 0)
    + firstW * (if m.val = 0 then 1 else 0)

/-- How many blocks come before block `m` in the order of worth, equal worths in index order. -/
def rank (x : Fin 32 → EReal) (m : Fin 32) : ℕ :=
  (Finset.univ.filter fun m' => x m < x m' ∨ (x m = x m' ∧ m' < m)).card

/-- Key `j` is at or before `t`, and its block of 64 is among the eight of greatest worth. -/
abbrev selMask (j : Fin 2048) : Prop := rank (worth q t CK) ⟨j.val / 64, by omega⟩ < 8 ∧ j.val ≤ t

/-- Key `j` is at or before `t`, by at most 256. -/
abbrev winMask (j : Fin 2048) : Prop := j.val ≤ t ∧ t - j.val ≤ 256

open Classical in
/-- Masked attention: the weighted values over the denominator. -/
def attend (P : Fin 2048 → Prop) (d : Fin 128) : EReal :=
  Ideal.div (∑ j, snum P (fun j => score q (K j)) j * V j d) (sden P fun j => score q (K j))

/-- The three branches under the row's gates `g`. -/
def rowOut (g : Fin 3 → EReal) (d : Fin 128) : EReal :=
  cmpOut q t CK CV d * g 0 + attend q K V (selMask q t CK) d * g 1 + attend q K V (winMask t) d * g 2

/-- Gate `c` of the row. -/
def gate (Wg : Fin 128 → Fin 3 → EReal) (bg : Fin 3 → EReal) (c : Fin 3) : EReal :=
  Ideal.logistic ((∑ d, q d * Wg d c) + bg c)

/-! ## The arithmetic the two programs differ by -/

theorem eps_pos : 0 < eps := by
  unfold eps; simp [Ideal.ofBits, Ideal.ieee]
  exact EReal.mul_pos (by exact_mod_cast (by norm_num : (0 : ℝ) < 10633824)) (EReal.coe_pos.2 (by positivity))

theorem ownW_nonneg : 0 ≤ ownW := by
  unfold ownW; simp [Ideal.ofBits, Ideal.ieee]
  exact mul_nonneg (by exact_mod_cast (by norm_num : (0 : ℝ) ≤ 16000000)) (EReal.coe_nonneg.2 (by positivity))

theorem firstW_nonneg : 0 ≤ firstW := by
  unfold firstW; simp [Ideal.ofBits, Ideal.ieee]
  exact mul_nonneg (by exact_mod_cast (by norm_num : (0 : ℝ) ≤ 16000000)) (EReal.coe_nonneg.2 (by positivity))

section Softmax

variable {ι : Type} [Fintype ι] (P : ι → Prop) [DecidablePred P] (s : ι → EReal)

theorem sden_pos : 0 < sden P s := lt_of_lt_of_le eps_pos (le_max_right _ _)

theorem snum_nonneg (i : ι) : 0 ≤ snum P s i := by
  unfold snum
  split
  · generalize s i - smax P s = x
    induction x using EReal.rec with
    | bot => exact le_refl (0 : EReal)
    | coe r => exact EReal.coe_nonneg.2 (Real.exp_pos r).le
    | top => exact (le_top : (0 : EReal) ≤ ⊤)
  · exact le_refl _

/-- The numerator does not depend on a masked score. -/
theorem smax_congr (s' : ι → EReal) (h : ∀ i, P i → s i = s' i) : smax P s = smax P s' := by
  unfold smax
  congr 1; funext i
  split
  · exact h i ‹_›
  · rfl

theorem snum_congr (s' : ι → EReal) (h : ∀ i, P i → s i = s' i) (i : ι) : snum P s i = snum P s' i := by
  unfold snum
  rw [smax_congr P s s' h]
  split
  · rw [h i ‹_›]
  · rfl

end Softmax

/-- Dividing by something positive is multiplying by a real that is not negative. -/
theorem div_eq_mul {D : EReal} (hD : 0 < D) (x : EReal) : Ideal.div x D = x * D⁻¹ := by
  unfold Ideal.div; rw [if_neg hD.ne']

theorem inv_ne_top {D : EReal} (hD : 0 < D) : D⁻¹ ≠ ⊤ := by
  induction D using EReal.rec with
  | bot => simp at hD
  | coe r => rw [← EReal.coe_inv]; exact EReal.coe_ne_top _
  | top => simp

theorem sum_mul_right {ι : Type} (S : Finset ι) (f : ι → EReal) {c : EReal} (h0 : 0 ≤ c) (ht : c ≠ ⊤) :
    (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 ht, ih]

/-- Normalising before or after the product with the values. -/
theorem div_sum {ι : Type} (S : Finset ι) (e v : ι → EReal) {D : EReal} (hD : 0 < D) :
    Ideal.div (∑ i ∈ S, e i * v i) D = ∑ i ∈ S, Ideal.div (e i) D * v i := by
  have h0 : 0 ≤ D⁻¹ := EReal.inv_nonneg_of_nonneg hD.le
  rw [div_eq_mul hD, sum_mul_right S _ h0 (inv_ne_top hD)]
  refine Finset.sum_congr rfl fun i _ => ?_
  rw [div_eq_mul hD, mul_right_comm]

theorem cmpP_nonneg (n : Fin 127) : 0 ≤ cmpP q t CK n := by
  unfold cmpP
  rw [div_eq_mul (sden_pos _ _)]
  exact mul_nonneg (snum_nonneg _ _ _) (EReal.inv_nonneg_of_nonneg (sden_pos _ _).le)

/-- A block that has started is worth more than one that has not. -/
theorem worth_ne_bot (m : Fin 32) (h : m.val * 64 ≤ t) : ⊥ < worth q t CK m := by
  unfold worth
  rw [if_neg (by omega)]
  have h1 : (0 : EReal) ≤ ∑ n : Fin 127, cmpP q t CK n * (if n.val / 4 = m.val then 1 else 0) :=
    Finset.sum_nonneg fun n _ => mul_nonneg (cmpP_nonneg q t CK n) (by split <;> simp)
  have h2 : (0 : EReal) ≤ ownW * (if t / 64 = m.val then 1 else 0) :=
    mul_nonneg ownW_nonneg (by split <;> simp)
  have h3 : (0 : EReal) ≤ firstW * (if m.val = 0 then 1 else 0) :=
    mul_nonneg firstW_nonneg (by split <;> simp)
  exact lt_of_lt_of_le EReal.bot_lt_zero (add_nonneg (add_nonneg h1 h2) h3)

end Cert.Nsa

end
-- ==== Proof.Select.lean ====
module

public import proofs.«01_k».proof.Proof.Spec
public import Idealize.ShloMosaic.Lib.SortFacts

@[expose] public section

/-! # The eight blocks of greatest worth, taken one at a time or by a stable sort

`rank` counts the blocks that come before a block. Taking the greatest remaining block eight times chooses the blocks of rank below eight
(as long as what is taken is not `⊥`), and so does a stable sort, greater first, cut to its first eight places. -/

noncomputable section

namespace Cert.Nsa

open Idealize.ShloMosaic

/-- Block `a` comes before block `b`. -/
abbrev Bef (x : Fin 32 → EReal) (a b : Fin 32) : Prop := x b < x a ∨ (x b = x a ∧ a < b)

variable (x : Fin 32 → EReal)

theorem bef_trans {a b c : Fin 32} (h : Bef x a b) (h' : Bef x b c) : Bef x a c := by
  rcases h with h | ⟨h, hl⟩ <;> rcases h' with h' | ⟨h', hl'⟩
  · exact .inl (h'.trans h)
  · exact .inl (h' ▸ h)
  · exact .inl (h ▸ h')
  · exact .inr ⟨h'.trans h, hl.trans hl'⟩

theorem bef_total {a b : Fin 32} (hab : a ≠ b) : Bef x a b ∨ Bef x b a := by
  rcases lt_trichotomy (x a) (x b) with h | h | h
  · exact .inr (.inl h)
  · rcases lt_or_gt_of_ne hab with hl | hl
    · exact .inl (.inr ⟨h.symm, hl⟩)
    · exact .inr (.inr ⟨h, hl⟩)
  · exact .inl (.inl h)

theorem bef_irrefl (a : Fin 32) : ¬ Bef x a a := by rintro (h | ⟨_, h⟩) <;> exact lt_irrefl _ h

theorem rank_lt {a b : Fin 32} (h : Bef x a b) : rank x a < rank x b := by
  refine Finset.card_lt_card (Finset.ssubset_iff_of_subset (fun c hc => ?_) |>.2 ⟨a, ?_, ?_⟩)
  · simp only [Finset.mem_filter, Finset.mem_univ, true_and] at hc ⊢
    exact bef_trans x hc h
  · simpa using h
  · simpa using bef_irrefl x a

theorem rank_inj {a b : Fin 32} (h : rank x a = rank x b) : a = b := by
  by_contra hab
  rcases bef_total x hab with h' | h'
  · exact absurd h (rank_lt x h').ne
  · exact absurd h (rank_lt x h').ne'

/-- A block all of whose predecessors have rank below `r` has rank at most `r`. -/
theorem rank_le {j : Fin 32} {r : ℕ} (h : ∀ a, Bef x a j → rank x a < r) : rank x j ≤ r := by
  have := Finset.card_le_card_of_injOn (s := Finset.univ.filter fun m' => Bef x m' j) (t := Finset.range r) (rank x)
    (fun a ha => by simpa using h a (by simpa using ha)) (fun a _ b _ hab => rank_inj x hab)
  rw [Finset.card_range] at this
  exact this

/-! ## One at a time -/

/-- What taking blocks one at a time keeps: after `r` of them, `S` holds those of rank below `r` (among the blocks not worth `⊥`), and what
    is left is the worths with the taken ones at `⊥`. -/
structure Taken (r : ℕ) (S : Fin 32 → Prop) (y : Fin 32 → EReal) : Prop where
  mem : ∀ m, ⊥ < x m → (S m ↔ rank x m < r)
  rest : ∀ m, ¬ S m → y m = x m
  gone : ∀ m, S m → y m = ⊥

/-- Taking the first block of greatest remaining worth. -/
theorem Taken.step {r : ℕ} {S : Fin 32 → Prop} {y : Fin 32 → EReal} (h : Taken x r S y) (j : Fin 32)
    (hj : ∀ m, y m ≤ y j) (hfirst : ∀ m, y m = y j → j ≤ m) :
    Taken x (r + 1) (fun m => m = j ∨ S m) (fun m => if m = j then ⊥ else y m) := by
  refine ⟨fun m hm => ?_, fun m hm => ?_, fun m hm => ?_⟩
  · by_cases hb : y j = ⊥
    · have hS : S m := by
        by_contra hS
        have h1 := hj m
        rw [hb, h.rest m hS] at h1
        exact absurd h1 (not_le.2 hm)
      have := (h.mem m hm).1 hS
      exact ⟨fun _ => by omega, fun _ => .inr hS⟩
    · have hjS : ¬ S j := fun hS => hb (h.gone j hS)
      have hxj : y j = x j := h.rest j hjS
      have hxb : ⊥ < x j := hxj ▸ bot_lt_iff_ne_bot.2 hb
      have hge : r ≤ rank x j := not_lt.1 fun hlt => hjS ((h.mem j hxb).2 hlt)
      have hle : rank x j ≤ r := rank_le x fun a ha => by
        have hxa : ⊥ < x a := by
          rcases ha with ha | ⟨ha, _⟩
          · exact lt_of_le_of_lt bot_le ha
          · exact ha ▸ hxb
        refine (h.mem a hxa).1 ?_
        by_contra hS
        have hya := h.rest a hS
        rcases ha with ha | ⟨ha, hlt⟩
        · exact absurd (hj a) (not_le.2 (by rw [hya, hxj]; exact ha))
        · exact absurd (hfirst a (by rw [hya, hxj]; exact ha.symm)) (not_le.2 hlt)
      constructor
      · rintro (rfl | hS)
        · omega
        · have := (h.mem m hm).1 hS; omega
      · intro hlt
        by_cases he : rank x m = r
        · exact .inl (rank_inj x (by omega))
        · exact .inr ((h.mem m hm).2 (by omega))
  · rw [if_neg fun he => hm (.inl he)]; exact h.rest m fun hS => hm (.inr hS)
  · split
    · rfl
    · exact h.gone m (hm.resolve_left ‹_›)

theorem Taken.zero : Taken x 0 (fun _ => False) x :=
  ⟨fun m _ => by simp, fun _ _ => rfl, fun _ h => h.elim⟩

/-! ## By a stable sort -/

/-- Greater first. -/
def gtB (a b : Fin 32) : Bool := decide (x b < x a)

/-- Inserting a block before a list of later blocks keeps the order. -/
theorem pairwise_insert (a : Fin 32) (l : List (Fin 32)) (ha : ∀ b ∈ l, a < b) (hl : l.Pairwise (Bef x)) :
    (insertBefore (gtB x) a l).Pairwise (Bef x) := by
  induction l with
  | nil => exact List.pairwise_singleton _ _
  | cons b l ih =>
    rw [List.pairwise_cons] at hl
    unfold insertBefore
    split
    · rename_i hb
      refine List.pairwise_cons.2 ⟨fun c hc => ?_, ih (fun c hc => ha c (List.mem_cons_of_mem _ hc)) hl.2⟩
      rcases List.mem_cons.1 ((perm_insertBefore _ a l).mem_iff.1 hc) with rfl | hc
      · exact .inl (by simpa [gtB] using hb)
      · exact hl.1 c hc
    · rename_i hb
      have hab : Bef x a b := by
        have h1 : x b ≤ x a := by simpa [gtB] using hb
        rcases h1.lt_or_eq with h | h
        · exact .inl h
        · exact .inr ⟨h, ha b List.mem_cons_self⟩
      refine List.pairwise_cons.2 ⟨fun c hc => ?_, List.pairwise_cons.2 hl⟩
      rcases List.mem_cons.1 hc with rfl | hc
      · exact hab
      · exact bef_trans x hab (hl.1 c hc)

theorem pairwise_sort (l : List (Fin 32)) (hl : l.Pairwise (· < ·)) : (stableSort (gtB x) l).Pairwise (Bef x) := by
  induction l with
  | nil => exact List.Pairwise.nil
  | cons a l ih =>
    rw [List.pairwise_cons] at hl
    unfold stableSort
    exact pairwise_insert x a _ (fun b hb => hl.1 b ((perm_stableSort _ l).mem_iff.1 hb)) (ih hl.2)

theorem pairwise_places {R : Fin 32 → Fin 32 → Prop} (l : List (Fin 32)) (hn : 32 = l.length) (hl : l.Pairwise R) {i j : Fin 32} (h : i < j) :
    R (l.get (i.cast hn)) (l.get (j.cast hn)) :=
  List.pairwise_iff_get.1 hl _ _ h

theorem sorted_bef {i j : Fin 32} (h : i < j) : Bef x (sortedFrom (gtB x) i) (sortedFrom (gtB x) j) :=
  pairwise_places (sortPositions 32 (gtB x)) (length_sortPositions 32 (gtB x)).symm (pairwise_sort x (List.finRange 32) (List.pairwise_lt_finRange 32)) h

/-- Place `k` of the sort holds the block of rank `k`. -/
theorem rank_sorted (k : Fin 32) : rank x (sortedFrom (gtB x) k) = k.val := by
  have hmono : StrictMono fun k : Fin 32 => rank x (sortedFrom (gtB x) k) := fun i j h => rank_lt x (sorted_bef x h)
  have hlt : ∀ m, rank x m < 32 := fun m => by
    refine lt_of_lt_of_le (Finset.card_lt_card (Finset.filter_ssubset.2 ⟨m, Finset.mem_univ _, bef_irrefl x m⟩)) ?_
    simp
  have hf : StrictMono fun k : Fin 32 => (⟨rank x (sortedFrom (gtB x) k), hlt _⟩ : Fin 32) := hmono
  have := (Finite.injective_iff_bijective.1 hf.injective)
  have hid : (fun k : Fin 32 => (⟨rank x (sortedFrom (gtB x) k), hlt _⟩ : Fin 32)) = id := by
    have h1 := (StrictMono.orderIsoOfSurjective _ hf this.2)
    have h2 : (StrictMono.orderIsoOfSurjective _ hf this.2) = OrderIso.refl _ := Subsingleton.elim _ _
    funext k
    exact congrArg (fun e : Fin 32 ≃o Fin 32 => e k) h2
  exact congrArg Fin.val (congrFun hid k)

/-- A block is among the first eight places exactly when its rank is below eight. -/
theorem exists_sorted_iff (m : Fin 32) : (∃ k : Fin 8, sortedFrom (gtB x) ⟨k.val, by omega⟩ = m) ↔ rank x m < 8 := by
  constructor
  · rintro ⟨k, rfl⟩
    rw [rank_sorted]; exact k.isLt
  · intro h
    obtain ⟨k, rfl⟩ := sortedFrom_surjective (gtB x) m
    rw [rank_sorted] at h
    exact ⟨⟨k.val, h⟩, rfl⟩

end Cert.Nsa

end
-- ==== Proof.Rows.lean ====
module

public import proofs.«01_k».proof.Proof.Select
public import Idealize.ShloMosaic.Lib.MatmulPlain
public import Idealize.ShloMosaic.Lib.WordCmp
public import Idealize.ShloMosaic.Lib.IdealHost
public import Idealize.ShloMosaic.Lib.Pipeline.Value

@[expose] public section

/-! # Reading a matrix operation at a row and a column

What the kernel's products, its reductions along a row and its broadcasts of a column hold at an index, and what its comparisons of small
words say. -/

noncomputable section

namespace Cert.Nsa

open Idealize.ShloMosaic Idealize.ShloMosaic.ValueIdx Idealize.ShloMosaic.WordCmp

variable {M K N : ℕ}

theorem mm_plain {φ₁ φ₂ : FTy} (D : DotDims ⟨2, ![M, K]⟩ ⟨2, ![K, N]⟩ ⟨2, ![M, N]⟩) (hD : D = DotDims.plain M K N)
    (lhs : FVec Ideal ⟨2, ![M, K]⟩ φ₁) (rhs : FVec Ideal ⟨2, ![K, N]⟩ φ₂) (r : Fin M) (c : Fin N) :
    FloatOps.matmul D none lhs rhs (constant ⟨2, ![M, N]⟩ .f32 0x00000000#32) (ix2 r c) = ∑ k : Fin K, lhs (ix2 r k) * rhs (ix2 k c) := by
  subst hD
  rw [Ideal.matmul_plain_apply, constant_apply]
  simp [Ideal.ofBits, Ideal.ieee]

theorem mm_trans {φ₁ φ₂ : FTy} (D : DotDims ⟨2, ![M, K]⟩ ⟨2, ![N, K]⟩ ⟨2, ![M, N]⟩) (hD : D = DotDims.transposedRhs M K N)
    (lhs : FVec Ideal ⟨2, ![M, K]⟩ φ₁) (rhs : FVec Ideal ⟨2, ![N, K]⟩ φ₂) (r : Fin M) (c : Fin N) :
    FloatOps.matmul D none lhs rhs (constant ⟨2, ![M, N]⟩ .f32 0x00000000#32) (ix2 r c) = ∑ k : Fin K, lhs (ix2 r k) * rhs (ix2 c k) := by
  subst hD
  rw [Ideal.matmul_transposedRhs_apply, constant_apply]
  simp [Ideal.ofBits, Ideal.ieee]

/-- A column of row values, read at its row. -/
theorem col_apply {α : Type} (v : (⟨1, ![M]⟩ : Shape).Idx → α) (h : (⟨1, ![M]⟩ : Shape).ShapeCasts ⟨2, ![M, 1]⟩) (r : Fin M) :
    shapeCast ⟨2, ![M, 1]⟩ v h (ix2 r 0) = v (ix1 r) := by
  refine shapeCast_apply v h _ _ ?_
  rw [Shape.rowMajor_val_one, Shape.rowMajor_val_two]
  show r.val = r.val * 1 + 0
  omega

theorem spread_apply {α : Type} (v : (⟨2, ![M, 1]⟩ : Shape).Idx → α) (h : (⟨2, ![M, 1]⟩ : Shape).Broadcasts ⟨2, ![M, N]⟩) (hM : M ≠ 1) (r : Fin M)
    (n : Fin N) : broadcastTo ⟨2, ![M, N]⟩ v h (ix2 r n) = v (ix2 r 0) := by
  unfold broadcastTo
  congr 1
  funext a
  match a with
  | ⟨0, _⟩ => exact dif_neg hM
  | ⟨1, _⟩ => exact dif_pos rfl

theorem lift_row (h : (⟨2, ![M, N]⟩ : Shape).Reduces [1] ⟨1, ![M]⟩) (r : Fin M) (k : Fin N) : h.lift (ix1 r) k = ix2 r k := by
  funext a
  match a with
  | ⟨0, _⟩ => rfl
  | ⟨1, _⟩ => rfl

theorem bot_bits : (FloatOps.ofBits .f32 0xFF800000#32 : Ideal .f32) = ⊥ := by
  show Ideal.ofBits .f32 0xFF800000#32 = ⊥
  simp [Ideal.ofBits, Ideal.ieee]

theorem fold_max {ι : Type} (S : Finset ι) (f : ι → EReal) : S.fold (max : EReal → EReal → EReal) ⊥ f = S.sup f := rfl

/-- A row's maximum. -/
theorem rowMax (v : FVec Ideal ⟨2, ![M, N]⟩ .f32) (h : (⟨2, ![M, N]⟩ : Shape).Reduces [1] ⟨1, ![M]⟩) (hφ : FKind.Formats .f32)
    (hacc : (0xFF800000#32 : BitVec 32) = FKind.maximumf.neutral .f32 hφ) (r : Fin M) :
    multiReduction .maximumf [1] ⟨1, ![M]⟩ v 0xFF800000#32 h hφ hacc (ix1 r) = Finset.univ.sup fun k : Fin N => v (ix2 r k) := by
  refine (Ideal.multiReduction_maximumf_single v _ h hφ hacc (ix1 r)).trans ?_
  rw [bot_bits]
  exact (fold_max _ _).trans (congrArg _ (funext fun k => congrArg v (lift_row h r k)))

/-- A row's sum. -/
theorem rowSum (v : FVec Ideal ⟨2, ![M, N]⟩ .f32) (h : (⟨2, ![M, N]⟩ : Shape).Reduces [1] ⟨1, ![M]⟩) (hφ : FKind.Formats .f32)
    (hacc : (0x00000000#32 : BitVec 32) = FKind.add.neutral .f32 hφ) (r : Fin M) :
    multiReduction .add [1] ⟨1, ![M]⟩ v 0x00000000#32 h hφ hacc (ix1 r) = ∑ k : Fin N, v (ix2 r k) :=
  (Ideal.multiReduction_add_single v _ h hφ hacc (ix1 r)).trans (Finset.sum_congr rfl fun k _ => congrArg v (lift_row h r k))

/-- A row's least word: below every word of the row, and one of them (or the greatest word there is). -/
theorem rowMin (v : IVec ⟨2, ![M, N]⟩ 32) (h : (⟨2, ![M, N]⟩ : Shape).Reduces [1] ⟨1, ![M]⟩)
    (hacc : (2147483647#32 : BitVec 32) = IKind.minsi.neutral) (r : Fin M) :
    multiReductionI .minsi [1] ⟨1, ![M]⟩ v 2147483647#32 h hacc (ix1 r)
      = (Finset.univ : Finset (Fin N)).fold IntOp.minsi 2147483647#32 fun k => v (ix2 r k) := by
  classical
  refine (multiReductionI_eq_fold .minsi v _ h hacc (ix1 r)).trans ?_
  refine (h.fold_filter_drop_single IntOp.minsi _ v (ix1 r)).trans ?_
  exact congrArg (Finset.fold IntOp.minsi 2147483647#32 · _) (funext fun k => congrArg v (lift_row h r k))

theorem minsi_ofNat {a b : ℕ} (ha : a < 2 ^ 31) (hb : b < 2 ^ 31) :
    IntOp.minsi (BitVec.ofNat 32 a) (BitVec.ofNat 32 b) = BitVec.ofNat 32 (min a b) := by
  have h1 := toInt_ofNat_of_lt (w := 32) (a := a) ha
  have h2 := toInt_ofNat_of_lt (w := 32) (a := b) hb
  unfold IntOp.minsi
  rw [BitVec.slt_eq_decide, h1, h2]
  rcases lt_or_ge a b with h | h
  · rw [min_eq_left h.le, if_pos (by simpa using h)]
  · rw [min_eq_right h, if_neg (by simpa using h)]

/-- The least of a family of small naturals, as words. -/
theorem fold_minsi {ι : Type} [DecidableEq ι] (S : Finset ι) (f : ι → ℕ) (hf : ∀ i, f i < 2 ^ 31) :
    ∃ a, a < 2 ^ 31 ∧ S.fold IntOp.minsi 2147483647#32 (fun k => BitVec.ofNat 32 (f k)) = BitVec.ofNat 32 a ∧ (∀ i ∈ S, a ≤ f i)
      ∧ (a = 2147483647 ∨ ∃ i ∈ S, a = f i) := by
  induction S using Finset.induction_on with
  | empty => exact ⟨2147483647, by norm_num, rfl, by simp, .inl rfl⟩
  | insert i S hi ih =>
    obtain ⟨a, ha, he, hle, hex⟩ := ih
    refine ⟨min (f i) a, lt_of_le_of_lt (min_le_right _ _) ha, ?_, ?_, ?_⟩
    · rw [Finset.fold_insert hi, he, minsi_ofNat (hf i) ha]
    · intro k hk
      rcases Finset.mem_insert.1 hk with rfl | hk
      · exact min_le_left _ _
      · exact (min_le_right _ _).trans (hle k hk)
    · rcases le_total (f i) a with h | h
      · exact .inr ⟨i, Finset.mem_insert_self _ _, min_eq_left h⟩
      · rw [min_eq_right h]
        rcases hex with hex | ⟨k, hk, hex⟩
        · exact .inl hex
        · exact .inr ⟨k, Finset.mem_insert_of_mem hk, hex⟩

/-- A select on a decided condition. -/
theorem sel_of {α : Type} (p : Prop) [Decidable p] (a b : α) : Scalar.select (BitVec.ofBool (decide p)) a b = if p then a else b := by
  by_cases h : p <;> simp [h, Scalar.select]

/-- A decided condition as a number. -/
theorem ind_of (p : Prop) [Decidable p] :
    (FloatOps.sitofp .f32 ((BitVec.ofBool (decide p)).setWidth 32) : Ideal .f32) = if p then 1 else 0 := by
  show (((((BitVec.ofBool (decide p)).setWidth 32).toInt : ℝ)) : EReal) = _
  by_cases h : p <;> simp [h]

/-- The same for a mark read as a number without a sign. -/
theorem uind_of (p : Prop) [Decidable p] : (FloatOps.uitofp .f32 (BitVec.ofBool (decide p)) : Ideal .f32) = if p then 1 else 0 := by
  show (((((BitVec.ofBool (decide p)).toNat : ℝ)) : EReal)) = _
  by_cases h : p <;> simp [h]

end Cert.Nsa

end
-- ==== Proof.KerCmp.lean ====
module

public import proofs.«01_k».proof.Proof.Rows
public import proofs.«01_k».proof.Proof.IdealRun

@[expose] public section

/-! # What a point computes before the key tiles: pooled attention and the blocks' worths -/

set_option maxRecDepth 16384

noncomputable section

namespace Cert.KernelIdeal.Hand

open Cert.KernelIdeal Cert.KernelIdeal.Gen Cert.Nsa
open Idealize.ShloMosaic Idealize.ShloMosaic.ValueIdx Idealize.ShloMosaic.WordCmp

/-- The position of row `r` of grid point `i`. -/
abbrev pos (i : grid0.Coords) (r : Fin 256) : ℕ := (i 1).val * 256 + r.val

theorem row_lt (i : grid0.Coords) : (i 1).val < 8 := (i 1).isLt

theorem pos_lt (i : grid0.Coords) (r : Fin 256) : pos i r < 2048 := by
  have := row_lt i; have := r.isLt; unfold pos; omega

theorem mask_bot : (Named.named κ "mask" 0xF149F2CA#32 : Ideal .f32) = ⊥ :=
  IdealRules.named_const.ideal_named_scalar _ _ _ _ rfl

theorem iota0_apply {M N : ℕ} (h : (⟨2, ![M, N]⟩ : Shape).Iotas .tc 32 [0]) (r : Fin M) (n : Fin N) :
    iota .tc ⟨2, ![M, N]⟩ 32 [0] h (ix2 r n) = BitVec.ofNat 32 r.val :=
  iota_single_apply .tc _ 32 0 h (ix2 r n)

theorem iota1_apply {M N : ℕ} (h : (⟨2, ![M, N]⟩ : Shape).Iotas .tc 32 [1]) (r : Fin M) (n : Fin N) :
    iota .tc ⟨2, ![M, N]⟩ 32 [1] h (ix2 r n) = BitVec.ofNat 32 n.val :=
  iota_single_apply .tc _ 32 1 h (ix2 r n)

theorem pay2_apply (i : grid0.Coords) (r : Fin 256) : k0_pay2 i (ix2 r 0) = BitVec.ofNat 32 (pos i r) := by
  unfold k0_pay2
  show IntOp.addi (IntOp.muli (BitVec.ofNat 32 (i 1).val) 256#32) (iota .tc S256x1 32 [0] iota_S256x1_d0_w32 (ix2 r 0)) = _
  rw [iota0_apply]
  show BitVec.ofNat 32 (i 1).val * BitVec.ofNat 32 256 + BitVec.ofNat 32 r.val = _
  rw [← BitVec.ofNat_mul, ← BitVec.ofNat_add]

/-- Row `r` of the query block. -/
abbrev qrow (x2 : Vec Ideal S256x128 .f32) (r : Fin 256) : Fin 128 → EReal := fun d => x2 (ix2 r d)
/-- Row `n` of a matrix with 128 columns. -/
abbrev mrow {N : ℕ} (x : Vec Ideal ⟨2, ![N, 128]⟩ .f32) (n : Fin N) : Fin 128 → EReal := fun d => x (ix2 n d)

theorem pay1_eq (x2 : Vec Ideal S256x128 .f32) : k0_pay1 x2 = x2 := shapeCast_self _ _

theorem zero_bits : (Scalar.ofBits .f32 0x00000000#32 : Ideal .f32) = 0 := by
  show Ideal.ofBits .f32 0x00000000#32 = 0
  simp [Ideal.ofBits, Ideal.ieee]

section Softmax

variable {M N : ℕ} (m : IVec ⟨2, ![M, N]⟩ 1) (s : FVec Ideal ⟨2, ![M, N]⟩ .f32) (r : Fin M) (P : Fin N → Prop) [DecidablePred P] (f : Fin N → EReal)
  (hs : ∀ n, P n → s (ix2 r n) = f n) (hm : ∀ n, m (ix2 r n) = BitVec.ofBool (decide (P n)))

include hs hm

theorem masked_apply (n : Fin N) :
    select m s (broadcast ⟨2, ![M, N]⟩ (Named.named κ "mask" 0xF149F2CA#32 : Ideal .f32)) (ix2 r n) = if P n then f n else ⊥ := by
  rw [select_apply, broadcast_apply, hm, sel_of, mask_bot]
  by_cases h : P n
  · rw [if_pos h, if_pos h, hs n h]
  · rw [if_neg h, if_neg h]

/-- The greatest score of a row among those that count. -/
theorem smax_col (h₁ : (⟨2, ![M, N]⟩ : Shape).Reduces [1] ⟨1, ![M]⟩) (h₂ : (⟨1, ![M]⟩ : Shape).ShapeCasts ⟨2, ![M, 1]⟩) (hφ : FKind.Formats .f32)
    (hacc : (0xFF800000#32 : BitVec 32) = FKind.maximumf.neutral .f32 hφ) :
    shapeCast ⟨2, ![M, 1]⟩ (multiReduction .maximumf [1] ⟨1, ![M]⟩ (select m s (broadcast ⟨2, ![M, N]⟩
      (Named.named κ "mask" 0xF149F2CA#32 : Ideal .f32))) 0xFF800000#32 h₁ hφ hacc) h₂ (ix2 r 0) = smax P f := by
  rw [col_apply, rowMax]
  exact congrArg _ (funext fun n => masked_apply m s r P f hs hm n)

/-- What a row's entry weighs. -/
theorem snum_row (c : FVec Ideal ⟨2, ![M, 1]⟩ .f32) (hc : c (ix2 r 0) = smax P f) (h₃ : (⟨2, ![M, 1]⟩ : Shape).Broadcasts ⟨2, ![M, N]⟩) (hM : M ≠ 1) (n : Fin N) :
    select m (exp (subf s (broadcastTo ⟨2, ![M, N]⟩ c h₃))) (broadcast ⟨2, ![M, N]⟩ (Scalar.ofBits .f32 0x00000000#32 : Ideal .f32)) (ix2 r n) = snum P f n := by
  rw [select_apply, broadcast_apply, hm, sel_of, zero_bits]
  unfold snum
  by_cases h : P n
  · rw [if_pos h, if_pos h]
    show Ideal.exp (s (ix2 r n) - broadcastTo ⟨2, ![M, N]⟩ c h₃ (ix2 r n)) = _
    rw [spread_apply _ _ hM, hc, hs n h]
  · rw [if_neg h, if_neg h]

omit hs hm in
/-- What a row's weights are divided by. -/
theorem sden_col (e : FVec Ideal ⟨2, ![M, N]⟩ .f32) (he : ∀ n, e (ix2 r n) = snum P f n) (h₁ : (⟨2, ![M, N]⟩ : Shape).Reduces [1] ⟨1, ![M]⟩)
    (h₂ : (⟨1, ![M]⟩ : Shape).ShapeCasts ⟨2, ![M, 1]⟩) (hφ : FKind.Formats .f32) (hacc : (0x00000000#32 : BitVec 32) = FKind.add.neutral .f32 hφ) :
    maximumf (shapeCast ⟨2, ![M, 1]⟩ (multiReduction .add [1] ⟨1, ![M]⟩ e 0x00000000#32 h₁ hφ hacc) h₂)
      (broadcast ⟨2, ![M, 1]⟩ (Scalar.ofBits .f32 0x0DA24260#32 : Ideal .f32)) (ix2 r 0) = sden P f := by
  rw [maximumf_apply, col_apply, rowSum, broadcast_apply]
  unfold sden
  rw [Finset.sum_congr rfl fun n _ => he n]
  rfl

end Softmax

/-- Which of the 128 pooled rows count at `t`: the last is not one. -/
abbrev cmask (t : ℕ) (n : Fin 128) : Prop := n.val < 127 ∧ n.val * 16 ≤ t

theorem cmask_word (i : grid0.Coords) (r : Fin 256) (n : Fin 128) :
    IntOp.andi (IntOp.cmpi .slt (BitVec.ofNat 32 n.val) 127#32)
      (IntOp.cmpi .sle (IntOp.muli (BitVec.ofNat 32 n.val) 16#32) (BitVec.ofNat 32 (pos i r))) = BitVec.ofBool (decide (cmask (pos i r) n)) := by
  have hn := n.isLt; have hp := pos_lt i r
  have e : IntOp.muli (BitVec.ofNat 32 n.val) 16#32 = BitVec.ofNat 32 (n.val * 16) := (BitVec.ofNat_mul ..).symm
  rw [e, show (127#32 : BitVec 32) = BitVec.ofNat 32 127 from rfl, cmpi_slt_ofNat (by omega) (by omega), cmpi_sle_ofNat (by omega) (by omega), andi_ofBool]
  congr 1
  simp [cmask]

theorem pay5_apply (i : grid0.Coords) (x2 : Vec Ideal S256x128 .f32) (ck : Vec Ideal S128x128 .f32) (r : Fin 256) (n : Fin 128) :
    k0_pay5 i x2 ck (ix2 r n)
      = Ideal.div (snum (cmask (pos i r)) (fun n => score (qrow x2 r) (mrow ck n)) n) (sden (cmask (pos i r)) fun n => score (qrow x2 r) (mrow ck n)) := by
  have hs : ∀ n : Fin 128, mulf (FloatOps.matmul dot_S256x128_S128x128_S256x128_1_1_0_0_n_n none (k0_pay1 x2) (ck : FVec Ideal S128x128 .f32) (constant S256x128 .f32 0x00000000#32))
      (broadcast S256x128 (Scalar.ofBits .f32 0x3DB504F3#32)) (ix2 r n) = score (qrow x2 r) (mrow ck n) := fun n => by
    rw [mulf_apply, pay1_eq, mm_trans (φ₁ := .f32) (φ₂ := .f32) dot_S256x128_S128x128_S256x128_1_1_0_0_n_n rfl]; rfl
  have hm : ∀ n : Fin 128, andi (cmpi .slt (iota .tc S256x128 32 [1] iota_S256x128_d1_w32) (broadcast S256x128 127#32))
      (cmpi .sle (muli (iota .tc S256x128 32 [1] iota_S256x128_d1_w32) (broadcast S256x128 16#32)) (broadcastTo S256x128 (k0_pay2 i) broadcasts_S256x1_S256x128)) (ix2 r n)
      = BitVec.ofBool (decide (cmask (pos i r) n)) := fun n => by
    rw [← cmask_word]
    show IntOp.andi (IntOp.cmpi .slt (iota .tc S256x128 32 [1] iota_S256x128_d1_w32 (ix2 r n)) 127#32)
      (IntOp.cmpi .sle (IntOp.muli (iota .tc S256x128 32 [1] iota_S256x128_d1_w32 (ix2 r n)) 16#32) (broadcastTo S256x128 (k0_pay2 i) broadcasts_S256x1_S256x128 (ix2 r n))) = _
    rw [iota1_apply, spread_apply _ _ (by norm_num), pay2_apply]
  have hk := masked_apply _ _ r (cmask (pos i r)) _ (fun n _ => hs n) hm
  have hx := smax_col _ _ r (cmask (pos i r)) _ (fun n _ => hs n) hm reduces_S256x128_S256 shapeCasts_S256_S256x1 (.inl rfl) rfl
  have he := snum_row _ _ r (cmask (pos i r)) _ (fun n h => (hk n).trans (if_pos h)) hm _ hx broadcasts_S256x1_S256x128 (by norm_num)
  unfold k0_pay5
  refine (divf_apply ..).trans ?_
  rw [spread_apply _ _ (by norm_num)]
  exact congrArg₂ Ideal.div (he n) (sden_col r _ _ _ he _ _ _ _)

theorem pay6_apply (i : grid0.Coords) (x2 : Vec Ideal S256x128 .f32) (ck cv : Vec Ideal S128x128 .f32) (r : Fin 256) (d : Fin 128) :
    k0_pay6 i x2 ck cv (ix2 r d) = ∑ n : Fin 128, k0_pay5 i x2 ck (ix2 r n) * cv (ix2 n d) := by
  unfold k0_pay6
  exact mm_plain (φ₁ := .f32) (φ₂ := .f32) dot_S256x128_S128x128_S256x128_1_0_0_1_n_n rfl _ _ r d

end Cert.KernelIdeal.Hand

end
-- ==== Proof.KerWorth.lean ====
module

public import proofs.«01_k».proof.Proof.KerCmp

@[expose] public section

/-! # Pooled attention over the 127 pooled rows, and the blocks' worths -/

set_option maxRecDepth 16384

noncomputable section

namespace Cert.KernelIdeal.Hand

open Cert.KernelIdeal Cert.KernelIdeal.Gen Cert.Nsa
open Idealize.ShloMosaic Idealize.ShloMosaic.ValueIdx Idealize.ShloMosaic.WordCmp

theorem smax_cut (t : ℕ) (f : Fin 128 → EReal) : smax (cmask t) f = smax (cmpMask t) fun n : Fin 127 => f n.castSucc := by
  unfold smax
  rw [Fin.univ_castSuccEmb, Finset.sup_cons, Finset.sup_map]
  have h : ¬ cmask t (Fin.last 127) := fun h => absurd h.1 (by simp)
  rw [if_neg h, bot_sup_eq]
  refine Finset.sup_congr rfl fun n _ => ?_
  have hn := n.isLt
  refine if_congr ?_ rfl rfl
  simp [cmask, cmpMask, mul_comm]

theorem snum_cut (t : ℕ) (f : Fin 128 → EReal) (n : Fin 127) :
    snum (cmask t) f n.castSucc = snum (cmpMask t) (fun n : Fin 127 => f n.castSucc) n := by
  unfold snum
  rw [smax_cut]
  have hn := n.isLt
  refine if_congr ?_ rfl rfl
  simp [cmask, cmpMask, mul_comm]

theorem snum_last (t : ℕ) (f : Fin 128 → EReal) : snum (cmask t) f (Fin.last 127) = 0 :=
  if_neg fun h => absurd h.1 (by simp)

theorem sden_cut (t : ℕ) (f : Fin 128 → EReal) : sden (cmask t) f = sden (cmpMask t) fun n : Fin 127 => f n.castSucc := by
  unfold sden
  rw [Fin.sum_univ_castSucc, snum_last, add_zero]
  simp only [snum_cut]

/-- The first 127 rows of a pooled block. -/
abbrev rows127 (ck : Vec Ideal S128x128 .f32) (n : Fin 127) : Fin 128 → EReal := mrow (N := 128) ck n.castSucc

variable (i : grid0.Coords) (x2 : Vec Ideal S256x128 .f32) (ck cv : Vec Ideal S128x128 .f32) (r : Fin 256)

theorem pay5_cut (n : Fin 127) : k0_pay5 i x2 ck (ix2 r n.castSucc) = cmpP (qrow x2 r) (pos i r) (rows127 ck) n := by
  rw [pay5_apply, snum_cut, sden_cut]
  rfl

theorem pay5_last : k0_pay5 i x2 ck (ix2 r (Fin.last 127)) = 0 := by
  rw [pay5_apply, snum_last, div_eq_mul (sden_pos _ _), zero_mul]

theorem pay6_cut (d : Fin 128) : k0_pay6 i x2 ck cv (ix2 r d) = cmpOut (qrow x2 r) (pos i r) (rows127 ck) (rows127 cv) d := by
  rw [pay6_apply, Fin.sum_univ_castSucc, pay5_last, zero_mul, add_zero]
  simp only [pay5_cut]
  rfl

/-- The floor of a quotient, as the programs write it: the truncated quotient, less one where the signs differ and something remains. -/
abbrev flr (a c s : BitVec 32) : BitVec 32 :=
  Scalar.select (IntOp.andi (IntOp.cmpi .ne (IntOp.subi ((IntOp.cmpi .sgt a 0#32).setWidth 32) ((IntOp.cmpi .slt a 0#32).setWidth 32)) s)
    (IntOp.cmpi .ne (IntOp.remsi .vector a c) 0#32)) (IntOp.subi (IntOp.divsi .vector a c) 1#32) (IntOp.divsi .vector a c)

abbrev sgn (c : BitVec 32) : BitVec 32 := IntOp.subi ((IntOp.cmpi .sgt c 0#32).setWidth 32) ((IntOp.cmpi .slt c 0#32).setWidth 32)

theorem flr4 : ∀ n : Fin 128, flr (BitVec.ofNat 32 n.val) 4#32 (sgn 4#32) = BitVec.ofNat 32 (n.val / 4) := by decide +kernel
theorem flr64 : ∀ n : Fin 2048, flr (BitVec.ofNat 32 n.val) 64#32 (sgn 64#32) = BitVec.ofNat 32 (n.val / 64) := by decide +kernel

theorem pay7_apply (pc : FVec Ideal S256x128 .f32) (m : Fin 32) :
    k0_pay7 pc (ix2 r m) = ∑ n : Fin 128, pc (ix2 r n) * (if n.val / 4 = m.val ∧ n.val < 127 then 1 else 0) := by
  unfold k0_pay7
  refine (mm_plain (φ₁ := .f32) (φ₂ := .f32) dot_S256x128_S128x32_S256x32_1_0_0_1_n_n rfl _ _ r m).trans ?_
  refine Finset.sum_congr rfl fun n _ => congrArg _ ?_
  have hn := n.isLt; have hm := m.isLt
  rw [← ind_of]
  show (FloatOps.sitofp .f32 (BitVec.setWidth 32 (IntOp.andi (IntOp.cmpi .eq (flr (iota .tc S128x32 32 [0] iota_S128x32_d0_w32 (ix2 n m)) 4#32 (sgn 4#32))
    (iota .tc S128x32 32 [1] iota_S128x32_d1_w32 (ix2 n m))) (IntOp.cmpi .slt (iota .tc S128x32 32 [0] iota_S128x32_d0_w32 (ix2 n m)) 127#32))) : Ideal .f32) = _
  rw [iota0_apply, iota1_apply, flr4, show (127#32 : BitVec 32) = BitVec.ofNat 32 127 from rfl, cmpi_slt_ofNat (by omega) (by omega),
    cmpi_eq_ofNat (by omega) (by omega), andi_ofBool]
  congr 4
  simp

theorem pSel_apply (m : Fin 32) :
    pSel i (k0_pay5 i x2 ck) (ix2 r m) = worth (qrow x2 r) (pos i r) (rows127 ck) m := by
  have hp := pos_lt i r; have hm := m.isLt
  have h7 : k0_pay7 (k0_pay5 i x2 ck) (ix2 r m) = ∑ n : Fin 127, cmpP (qrow x2 r) (pos i r) (rows127 ck) n * (if n.val / 4 = m.val then 1 else 0) := by
    rw [pay7_apply, Fin.sum_univ_castSucc, pay5_last, zero_mul, add_zero]
    refine Finset.sum_congr rfl fun n _ => ?_
    rw [pay5_cut]
    congr 1
    refine if_congr ?_ rfl rfl
    simp
  unfold pSel k0_pay10
  show Scalar.select (IntOp.cmpi .sgt (IntOp.muli (blkI (ix2 r m)) 64#32) (broadcastTo S256x32 (k0_pay2 i) broadcasts_S256x1_S256x32 (ix2 r m)))
    (Named.named κ "mask" 0xF149F2CA#32 : Ideal .f32)
    (k0_pay7 (k0_pay5 i x2 ck) (ix2 r m)
      + ownW * (FloatOps.sitofp .f32 ((IntOp.cmpi .eq (blkI (ix2 r m)) (broadcastTo S256x32 (fun j => flr (k0_pay2 i j) 64#32 (sgn 64#32)) broadcasts_S256x1_S256x32 (ix2 r m))).setWidth 32) : Ideal .f32)
      + firstW * (FloatOps.sitofp .f32 ((IntOp.cmpi .eq (blkI (ix2 r m)) 0#32).setWidth 32) : Ideal .f32)) = _
  have hb : blkI (ix2 r m) = BitVec.ofNat 32 m.val := iota1_apply _ r m
  rw [hb, spread_apply _ _ (by norm_num), spread_apply _ _ (by norm_num), pay2_apply, flr64 ⟨pos i r, hp⟩, h7, mask_bot,
    show IntOp.muli (BitVec.ofNat 32 m.val) 64#32 = BitVec.ofNat 32 (m.val * 64) from (BitVec.ofNat_mul ..).symm,
    cmpi_sgt_ofNat (by omega) (by omega), cmpi_eq_ofNat (by omega) (by omega), show (0#32 : BitVec 32) = BitVec.ofNat 32 0 from rfl,
    cmpi_eq_ofNat (by omega) (by omega), sel_of, ind_of, ind_of]
  unfold worth
  refine if_congr (Iff.rfl) rfl ?_
  congr 3
  exact if_congr eq_comm rfl rfl

end Cert.KernelIdeal.Hand

end
-- ==== Proof.KerRounds.lean ====
module

public import proofs.«01_k».proof.Proof.KerWorth

@[expose] public section

/-! # The eight rounds: which blocks a row takes -/

set_option maxRecDepth 16384

noncomputable section

namespace Cert.KernelIdeal.Hand

open Cert.KernelIdeal Cert.KernelIdeal.Gen Cert.Nsa
open Idealize.ShloMosaic Idealize.ShloMosaic.ValueIdx Idealize.ShloMosaic.WordCmp

/-- One round's choice: in each row the first block of greatest remaining worth. -/
abbrev pick (y : FVec Ideal S256x32 .f32) : IVec S256x32 1 := k0_pay14 blkI y

section Cols

variable {M N : ℕ} (h₁ : (⟨2, ![M, N]⟩ : Shape).Reduces [1] ⟨1, ![M]⟩) (h₂ : (⟨1, ![M]⟩ : Shape).ShapeCasts ⟨2, ![M, 1]⟩)
  (h₃ : (⟨2, ![M, 1]⟩ : Shape).Broadcasts ⟨2, ![M, N]⟩) (hM : M ≠ 1) (r : Fin M) (n : Fin N)

include hM

theorem top_apply (y : FVec Ideal ⟨2, ![M, N]⟩ .f32) (hφ : FKind.Formats .f32) (hacc : (0xFF800000#32 : BitVec 32) = FKind.maximumf.neutral .f32 hφ) :
    broadcastTo ⟨2, ![M, N]⟩ (shapeCast ⟨2, ![M, 1]⟩ (multiReduction .maximumf [1] ⟨1, ![M]⟩ y 0xFF800000#32 h₁ hφ hacc) h₂) h₃ (ix2 r n)
      = Finset.univ.sup fun k => y (ix2 r k) := by
  rw [spread_apply _ _ hM, col_apply, rowMax]

theorem least_apply (v : IVec ⟨2, ![M, N]⟩ 32) (hacc : (2147483647#32 : BitVec 32) = IKind.minsi.neutral) :
    broadcastTo ⟨2, ![M, N]⟩ (shapeCast ⟨2, ![M, 1]⟩ (multiReductionI .minsi [1] ⟨1, ![M]⟩ v 2147483647#32 h₁ hacc) h₂) h₃ (ix2 r n)
      = (Finset.univ : Finset (Fin N)).fold IntOp.minsi 2147483647#32 fun k => v (ix2 r k) := by
  rw [spread_apply _ _ hM, col_apply, rowMin]

end Cols

theorem blk_apply (r : Fin 256) (m : Fin 32) : blkI (ix2 r m) = BitVec.ofNat 32 m.val := iota1_apply _ r m

/-- The blocks of greatest worth by number, the others as 32. -/
def cand (y : FVec Ideal S256x32 .f32) : IVec S256x32 32 :=
  select (cmpf .oeq y (broadcastTo S256x32 (shapeCast S256x1 (multiReduction .maximumf [1] S256 y 0xFF800000#32 reduces_S256x32_S256 (.inl rfl) rfl)
      shapeCasts_S256_S256x1) broadcasts_S256x1_S256x32)) blkI (broadcast S256x32 32#32)

theorem cand_apply (y : FVec Ideal S256x32 .f32) (r : Fin 256) (k : Fin 32) :
    cand y (ix2 r k) = BitVec.ofNat 32 (if y (ix2 r k) = (Finset.univ.sup fun m => y (ix2 r m)) then k.val else 32) := by
  have e : cand y (ix2 r k) = Scalar.select (BitVec.ofBool (decide (y (ix2 r k) = broadcastTo S256x32 (shapeCast S256x1
      (multiReduction .maximumf [1] S256 y 0xFF800000#32 reduces_S256x32_S256 (.inl rfl) rfl) shapeCasts_S256_S256x1) broadcasts_S256x1_S256x32 (ix2 r k))))
      (blkI (ix2 r k)) 32#32 := rfl
  rw [e, sel_of, blk_apply]
  have h := top_apply reduces_S256x32_S256 shapeCasts_S256_S256x1 broadcasts_S256x1_S256x32 (by norm_num) r k y (.inl rfl) rfl
  refine (if_congr (Eq.congr_right h) rfl rfl).trans ?_
  split <;> rfl

theorem pick_word (y : FVec Ideal S256x32 .f32) (r : Fin 256) (m : Fin 32) :
    pick y (ix2 r m) = IntOp.cmpi .eq (BitVec.ofNat 32 m.val) ((Finset.univ : Finset (Fin 32)).fold IntOp.minsi 2147483647#32 fun k => cand y (ix2 r k)) := by
  have e : pick y (ix2 r m) = IntOp.cmpi .eq (blkI (ix2 r m)) (broadcastTo S256x32 (shapeCast S256x1
      (multiReductionI .minsi [1] S256 (cand y) 2147483647#32 reduces_S256x32_S256 rfl) shapeCasts_S256_S256x1) broadcasts_S256x1_S256x32 (ix2 r m)) := rfl
  have h := least_apply reduces_S256x32_S256 shapeCasts_S256_S256x1 broadcasts_S256x1_S256x32 (by norm_num) r m (cand y) rfl
  rw [e, blk_apply]
  exact congrArg _ h

theorem pick_apply (y : FVec Ideal S256x32 .f32) (r : Fin 256) :
    ∃ j : Fin 32, (∀ m, y (ix2 r m) ≤ y (ix2 r j)) ∧ (∀ m, y (ix2 r m) = y (ix2 r j) → j ≤ m)
      ∧ ∀ m, pick y (ix2 r m) = BitVec.ofBool (decide (m = j)) := by
  obtain ⟨a, ha, he, hle, hex⟩ := fold_minsi Finset.univ (fun k : Fin 32 => if y (ix2 r k) = (Finset.univ.sup fun m => y (ix2 r m)) then k.val else 32)
    (fun k => by have := k.isLt; split <;> omega)
  obtain ⟨j₀, _, hj₀⟩ := Finset.exists_mem_eq_sup Finset.univ ⟨(0 : Fin 32), Finset.mem_univ _⟩ fun m => y (ix2 r m)
  have hle₀ := hle j₀ (Finset.mem_univ _)
  rw [if_pos hj₀.symm] at hle₀
  have hlt := j₀.isLt
  have hex : ∃ j : Fin 32, y (ix2 r j) = (Finset.univ.sup fun m => y (ix2 r m)) ∧ a = j.val := by
    rcases hex with hex | ⟨j, _, hex⟩
    · omega
    · by_cases h : y (ix2 r j) = (Finset.univ.sup fun m => y (ix2 r m))
      · rw [if_pos h] at hex; exact ⟨j, h, hex⟩
      · rw [if_neg h] at hex; omega
  obtain ⟨j, hj, rfl⟩ := hex
  refine ⟨j, fun m => (Finset.le_sup (f := fun m => y (ix2 r m)) (Finset.mem_univ m)).trans hj.ge, fun m hm => ?_, fun m => ?_⟩
  · have := hle m (Finset.mem_univ _)
    rw [if_pos (hm.trans hj)] at this
    exact this
  · have hm := m.isLt; have hjl := j.isLt
    rw [pick_word]
    simp only [cand_apply]
    rw [he, cmpi_eq_ofNat (by omega) (by omega)]
    exact congrArg BitVec.ofBool (decide_eq_decide.2 Fin.ext_iff.symm)

/-- Where the rounds stand in row `r`: the blocks taken, the worths left, and the mask as written. -/
def Round (x : Fin 32 → EReal) (k : ℕ) (r : Fin 256) (y msk : FVec Ideal S256x32 .f32) : Prop :=
  ∃ S : Fin 32 → Prop, Taken x k S (fun m => y (ix2 r m)) ∧ ∀ m, (S m → msk (ix2 r m) = 1) ∧ (¬ S m → msk (ix2 r m) = 0)

theorem one_bits : (Scalar.ofBits .f32 0x3F800000#32 : Ideal .f32) = 1 := by
  show Ideal.ofBits .f32 0x3F800000#32 = 1
  exact Ideal.ofBits_one_f32

theorem Round.step {x : Fin 32 → EReal} {k : ℕ} {r : Fin 256} {y msk : FVec Ideal S256x32 .f32} (h : Round x k r y msk) :
    Round x (k + 1) r (select (pick y) (broadcast S256x32 (Scalar.ofBits .f32 0xFF800000#32 : Ideal .f32)) y)
      (select (pick y) (broadcast S256x32 (Scalar.ofBits .f32 0x3F800000#32 : Ideal .f32)) msk) := by
  obtain ⟨S, hT, hm⟩ := h
  obtain ⟨j, hj, hf, hp⟩ := pick_apply y r
  refine ⟨fun m => m = j ∨ S m, ?_, fun m => ?_⟩
  · have e : (fun m => select (pick y) (broadcast S256x32 (Scalar.ofBits .f32 0xFF800000#32 : Ideal .f32)) y (ix2 r m))
        = fun m => if m = j then ⊥ else y (ix2 r m) := by
      funext m
      rw [select_apply, broadcast_apply, hp, sel_of]
      exact if_congr Iff.rfl bot_bits rfl
    rw [e]
    exact hT.step x j hj hf
  · rw [select_apply, broadcast_apply, hp, sel_of, one_bits]
    constructor
    · rintro (h | h)
      · rw [if_pos h]
      · split
        · rfl
        · exact (hm m).1 h
    · intro h
      rw [if_neg fun e => h (.inl e)]
      exact (hm m).2 fun e => h (.inr e)

variable (i : grid0.Coords) (x2 : Vec Ideal S256x128 .f32) (ck : Vec Ideal S128x128 .f32) (r : Fin 256)

theorem round8 (pc : FVec Ideal S256x128 .f32) (x : Fin 32 → EReal) (hx : ∀ m, pSel i pc (ix2 r m) = x m) :
    ∃ y, Round x 8 r y (selM i pc) := by
  have h0 : Round x 0 r (pSel i pc) (broadcast S256x32 (Scalar.ofBits .f32 0x00000000#32 : Ideal .f32)) := by
    refine ⟨fun _ => False, ?_, fun m => ⟨False.elim, fun _ => zero_bits⟩⟩
    simp only [hx]
    exact Taken.zero x
  have h1 : Round x 1 r (rest1 i pc) (mask1 i pc) := h0.step
  have h4 : Round x 4 r (rest4 i pc) (mask4 i pc) := h1.step.step.step
  have h8 := h4.step.step.step.step
  exact ⟨_, h8⟩

/-- The mask the rounds leave: `1` at the blocks of rank below 8, `0` elsewhere, where the block has begun. -/
theorem selM_apply (m : Fin 32) (hm : m.val * 64 ≤ pos i r) :
    selM i (k0_pay5 i x2 ck) (ix2 r m) = if rank (worth (qrow x2 r) (pos i r) (rows127 ck)) m < 8 then 1 else 0 := by
  obtain ⟨y, S, hT, hS⟩ := round8 i r (k0_pay5 i x2 ck) _ fun m => pSel_apply i x2 ck r m
  have h := hT.mem m (worth_ne_bot _ _ _ m hm)
  split
  · exact (hS m).1 (h.2 ‹_›)
  · exact (hS m).2 fun e => ‹¬ _› (h.1 e)

/-- Everywhere it is `0` or `1`. -/
theorem selM_bit (m : Fin 32) : selM i (k0_pay5 i x2 ck) (ix2 r m) = 0 ∨ selM i (k0_pay5 i x2 ck) (ix2 r m) = 1 := by
  obtain ⟨y, S, hT, hS⟩ := round8 i r (k0_pay5 i x2 ck) _ fun m => pSel_apply i x2 ck r m
  by_cases h : S m
  · exact .inr ((hS m).1 h)
  · exact .inl ((hS m).2 h)

end Cert.KernelIdeal.Hand

end
-- ==== Proof.KerTrips.lean ====
module

public import proofs.«01_k».proof.Proof.IdealRun

@[expose] public section

/-! # The loops' trips, and how many there are

One trip of the first pass stores a tile of scores and raises the running maximum; one trip of the second adds a tile's weighted values and
weights. There are one or two trips; the remainder loops have none. -/

set_option maxRecDepth 16384

noncomputable section

namespace Cert.KernelIdeal.Hand

open Cert.KernelIdeal Cert.KernelIdeal.Gen
open Idealize.ShloMosaic Idealize.ShloMosaic.TcCoe

theorem trips1 : ∀ i : grid0.Coords, (k0_t1_loop i).trips = if (i 1).val < 4 then 1 else 2 := by decide +kernel
theorem trips2 : ∀ i : grid0.Coords, (k0_t2_loop i).trips = 0 := by decide +kernel
theorem trips3 : ∀ i : grid0.Coords, (k0_t3_loop i).trips = if (i 1).val < 4 then 1 else 2 := by decide +kernel
theorem trips4 : ∀ i : grid0.Coords, (k0_t4_loop i).trips = 0 := by decide +kernel

theorem off1_eq (i : grid0.Coords) (k : Fin (k0_t1_loop i).trips) : k0_off1 i k = ![k.val * 1024, 0] := by
  have h : ∀ (i : grid0.Coords) (k : Fin (k0_t1_loop i).trips), k0_off1 i k = ![k.val * 1024, 0] := by decide +kernel
  exact h i k
theorem off2_eq (i : grid0.Coords) (k : Fin (k0_t1_loop i).trips) : k0_off2 i k = ![0, k.val * 1024] := by
  have h : ∀ (i : grid0.Coords) (k : Fin (k0_t1_loop i).trips), k0_off2 i k = ![0, k.val * 1024] := by decide +kernel
  exact h i k
theorem off5_eq (i : grid0.Coords) : k0_off5 i = ![0, ((i 1).val - 1) * 256] := by
  have h : ∀ (i : grid0.Coords), k0_off5 i = ![0, ((i 1).val - 1) * 256] := by decide +kernel
  exact h i
theorem off6_eq (i : grid0.Coords) : k0_off6 i = ![((i 1).val - 1) * 256, 0] := by
  have h : ∀ (i : grid0.Coords), k0_off6 i = ![((i 1).val - 1) * 256, 0] := by decide +kernel
  exact h i
theorem off7_eq (i : grid0.Coords) (k : Fin (k0_t3_loop i).trips) : k0_off7 i k = ![0, k.val * 1024] := by
  have h : ∀ (i : grid0.Coords) (k : Fin (k0_t3_loop i).trips), k0_off7 i k = ![0, k.val * 1024] := by decide +kernel
  exact h i k
theorem off8_eq (i : grid0.Coords) (k : Fin (k0_t3_loop i).trips) : k0_off8 i k = ![k.val * 1024, 0] := by
  have h : ∀ (i : grid0.Coords) (k : Fin (k0_t3_loop i).trips), k0_off8 i k = ![k.val * 1024, 0] := by decide +kernel
  exact h i k

section Trips

variable {F : FTy → Type} [FloatOps F] [Named F]
variable (𝒱 : Variants) (c : Dev nD) (bd : Option 𝒱.V) (i : grid0.Coords)
    (arg2 : Memref sig .tc .vmem S256x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S128x2048 .bf16) (harg5 : arg5.IsWhole)
    (arg6 : Memref sig .tc .vmem S128x2048 .bf16) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S256x128 .f32) (harg9 : arg9.IsWhole)
    (arg10 : Memref sig .tc .vmem S256x2048 .f32) (harg10 : arg10.IsWhole)
    (arg11 : Memref sig .tc .vmem S128x128 .f32) (harg11 : arg11.IsWhole)
    (arg12 : Memref sig .tc .vmem S128x128 .f32) (harg12 : arg12.IsWhole)
    (v2 : FVec F S256x128 .f32) (v5 : IVec S256x1 32) (v226 : FVec F S256x32 .f32) (v227 : IVec S32x1024 32)
    (v252 : IVec S32x1024 32) (v253 : IVec S256x1024 32)

theorem tripR1 (arg1 v257 c1024 v258 v260 v262 : BitVec 32) (X : BufTy.Contents (Elt F) arg3.view.ty) (k : Fin (k0_t1_loop i).trips) (acc : FVec F S256x1 .f32) :
    tripR_k0_t1 𝒱 c bd i arg2 harg2 arg3 harg3 arg4 harg4 arg5 harg5 arg6 harg6 arg7 harg7 arg8 harg8 arg9 harg9 arg10 harg10 arg11 harg11 arg12 harg12 arg1 v2 v5 v226 v227 v252 v253 v257 c1024 v258 v260 v262 X k acc
      = k0_pay34 i v2 v5 v226 v227 v252 v253 k acc
          (View.readAt (Elt F) arg3.view (Rect.unit (s := S2048x128) (k0_off1 i k) S1024x128.size (k0_off1_inb i k)).toLoadRect X) := by
  unfold tripR_k0_t1 trip_k0_t1
  rfl

theorem tripL1 (arg1 v257 c1024 v258 v260 v262 : BitVec 32) (X : BufTy.Contents (Elt F) arg3.view.ty) (k : Fin (k0_t1_loop i).trips) (acc : FVec F S256x1 .f32) :
    tripL_k0_t1 𝒱 c bd i arg2 harg2 arg3 harg3 arg4 harg4 arg5 harg5 arg6 harg6 arg7 harg7 arg8 harg8 arg9 harg9 arg10 harg10 arg11 harg11 arg12 harg12 arg1 v2 v5 v226 v227 v252 v253 v257 c1024 v258 v260 v262 X k acc
      = [⟨Rect.unit (s := S256x2048) (k0_off2 i k) S256x1024.size (k0_off2_inb i k), k0_pay33 v2
          (View.readAt (Elt F) arg3.view (Rect.unit (s := S2048x128) (k0_off1 i k) S1024x128.size (k0_off1_inb i k)).toLoadRect X)⟩] := by
  unfold tripL_k0_t1 trip_k0_t1
  rfl

theorem tripR3 (v37 : FVec F S256x128 .f32) (v274 v285 : BitVec 32) (v282 : FVec F S256x1 .f32) (v297 : IVec S256x512 1) (v304 v305 : FVec F S256x512 .f32)
    (X : BufTy.Contents (Elt F) arg4.view.ty) (Y : BufTy.Contents (Elt F) arg10.view.ty) (k : Fin (k0_t3_loop i).trips)
    (acc : FVec F S256x128 .f32 × FVec F S256x1 .f32) :
    tripR_k0_t3 𝒱 c bd i arg2 harg2 arg3 harg3 arg4 harg4 arg5 harg5 arg6 harg6 arg7 harg7 arg8 harg8 arg9 harg9 arg10 harg10 arg11 harg11 arg12 harg12 v2 v5 v37 v226 v227 v252 v253 v274 v282 v285 v297 v304 v305 X Y k acc
      = (k0_pay44 i v5 v226 v227 v252 v253 v282 k acc.1
          (View.readAt (Elt F) arg10.view (Rect.unit (s := S256x2048) (k0_off7 i k) S256x1024.size (k0_off7_inb i k)).toLoadRect Y)
          (View.readAt (Elt F) arg4.view (Rect.unit (s := S2048x128) (k0_off8 i k) S1024x128.size (k0_off8_inb i k)).toLoadRect X),
        k0_pay45 i v5 v226 v227 v252 v253 v282 k acc.2
          (View.readAt (Elt F) arg10.view (Rect.unit (s := S256x2048) (k0_off7 i k) S256x1024.size (k0_off7_inb i k)).toLoadRect Y)) := by
  unfold tripR_k0_t3 trip_k0_t3
  rfl

end Trips

end Cert.KernelIdeal.Hand

end
-- ==== Proof.KerTile.lean ====
module

public import proofs.«01_k».proof.Proof.KerRounds
public import proofs.«01_k».proof.Proof.KerTrips

@[expose] public section

/-! # One tile of 1024 keys: its mask, its scores, its weights -/

set_option maxRecDepth 16384

noncomputable section

namespace Cert.KernelIdeal.Hand

open Cert.KernelIdeal Cert.KernelIdeal.Gen Cert.Nsa
open Idealize.ShloMosaic Idealize.ShloMosaic.ValueIdx Idealize.ShloMosaic.WordCmp

theorem half_lt : (Scalar.ofBits .f32 0x3F000000#32 : Ideal .f32) < 1 ∧ (0 : EReal) < (Scalar.ofBits .f32 0x3F000000#32 : Ideal .f32) := by
  have e : (Scalar.ofBits .f32 0x3F000000#32 : Ideal .f32) = (((1 / 2 : ℝ)) : EReal) := by
    show Ideal.ofBits .f32 0x3F000000#32 = _
    simp [Ideal.ofBits, Ideal.ieee]
    norm_cast
    norm_num
  rw [e]
  constructor
  · exact_mod_cast (by norm_num : (1 / 2 : ℝ) < 1)
  · exact_mod_cast (by norm_num : (0 : ℝ) < 1 / 2)

/-- The mask of tile `k`, as the program writes it. -/
def tmask (v5 : IVec S256x1 32) (v226 : FVec Ideal S256x32 .f32) (k : ℕ) : IVec S256x1024 1 :=
  andi (cmpf .ogt (matmul dot_S256x32_S32x1024_S256x1024_1_0_0_1_n_n none v226
      (sitofp .f32 (extui 32 (cmpi .eq rowI (addi (broadcast S32x1024 (Scalar.muli (Scf.iv 0#32 1#32 k) 16#32)) k0_pay30)) natLt_1_32))
      (constant S256x1024 .f32 0x00000000#32)) (broadcast S256x1024 (Scalar.ofBits .f32 0x3F000000#32)))
    (cmpi .sle (addi (broadcast S256x1024 (Scalar.muli (Scf.iv 0#32 1#32 k) 1024#32)) colI) (broadcastTo S256x1024 v5 broadcasts_S256x1_S256x1024))

theorem pay30_apply (m : Fin 32) (c : Fin 1024) : k0_pay30 (ix2 m c) = BitVec.ofNat 32 (c.val / 64) := by
  unfold k0_pay30
  show flr (iota .tc S32x1024 32 [1] iota_S32x1024_d1_w32 (ix2 m c)) 64#32 (sgn 64#32) = _
  rw [iota1_apply]
  exact flr64 ⟨c.val, by omega⟩

theorem iv_eq (k : ℕ) : Scf.iv 0#32 1#32 k = BitVec.ofNat 32 k := by simp [Scf.iv]

/-- Key `c` of tile `k`. -/
abbrev key (k : ℕ) (hk : k < 2) (c : Fin 1024) : Fin 2048 := ⟨k * 1024 + c.val, by have := c.isLt; omega⟩

section Masks

variable (i : grid0.Coords) (x2 : Vec Ideal S256x128 .f32) (ck : Vec Ideal S128x128 .f32) (r : Fin 256)

/-- The row's selection. -/
abbrev rsel (j : Fin 2048) : Prop := selMask (qrow x2 r) (pos i r) (rows127 ck) j

theorem tile_dot (v : FVec Ideal S256x32 .f32) (k : ℕ) (hk : k < 2) (c : Fin 1024) :
    matmul dot_S256x32_S32x1024_S256x1024_1_0_0_1_n_n none v
      (sitofp .f32 (extui 32 (cmpi .eq rowI (addi (broadcast S32x1024 (Scalar.muli (Scf.iv 0#32 1#32 k) 16#32)) k0_pay30)) natLt_1_32))
      (constant S256x1024 .f32 0x00000000#32) (ix2 r c) = v (ix2 r ⟨k * 16 + c.val / 64, by have := c.isLt; omega⟩) := by
  have hc := c.isLt
  refine (mm_plain (φ₁ := .f32) (φ₂ := .f32) dot_S256x32_S32x1024_S256x1024_1_0_0_1_n_n rfl _ _ r c).trans ?_
  have hi : ∀ m : Fin 32, (sitofp .f32 (extui 32 (cmpi .eq rowI (addi (broadcast S32x1024 (Scalar.muli (Scf.iv 0#32 1#32 k) 16#32)) k0_pay30)) natLt_1_32)
      : FVec Ideal S32x1024 .f32) (ix2 m c) = if m.val = k * 16 + c.val / 64 then 1 else 0 := fun m => by
    have hm := m.isLt
    rw [← ind_of]
    show (FloatOps.sitofp .f32 (BitVec.setWidth 32 (IntOp.cmpi .eq (iota .tc S32x1024 32 [0] iota_S32x1024_d0_w32 (ix2 m c))
      (IntOp.addi (IntOp.muli (Scf.iv 0#32 1#32 k) 16#32) (k0_pay30 (ix2 m c))))) : Ideal .f32) = _
    rw [iota0_apply, pay30_apply, iv_eq, show IntOp.addi (IntOp.muli (BitVec.ofNat 32 k) 16#32) (BitVec.ofNat 32 (c.val / 64))
      = BitVec.ofNat 32 (k * 16 + c.val / 64) by rw [BitVec.ofNat_add, BitVec.ofNat_mul]; rfl, cmpi_eq_ofNat (by omega) (by omega)]
  simp only [hi, mul_ite, mul_one, mul_zero]
  rw [Finset.sum_eq_single (⟨k * 16 + c.val / 64, by omega⟩ : Fin 32)]
  · rw [if_pos rfl]
  · intro m _ hm
    rw [if_neg fun h => hm (Fin.ext h)]
  · intro h
    exact absurd (Finset.mem_univ _) h

theorem tmask_apply (k : ℕ) (hk : k < 2) (c : Fin 1024) :
    tmask (k0_pay2 i) (selM i (k0_pay5 i x2 ck)) k (ix2 r c) = BitVec.ofBool (decide (rsel i x2 ck r (key k hk c))) := by
  have hc := c.isLt; have hp := pos_lt i r
  have e : tmask (k0_pay2 i) (selM i (k0_pay5 i x2 ck)) k (ix2 r c)
      = IntOp.andi (BitVec.ofBool (decide ((Scalar.ofBits .f32 0x3F000000#32 : Ideal .f32) < matmul dot_S256x32_S32x1024_S256x1024_1_0_0_1_n_n none (selM i (k0_pay5 i x2 ck))
      (sitofp .f32 (extui 32 (cmpi .eq rowI (addi (broadcast S32x1024 (Scalar.muli (Scf.iv 0#32 1#32 k) 16#32)) k0_pay30)) natLt_1_32))
      (constant S256x1024 .f32 0x00000000#32) (ix2 r c))))
        (IntOp.cmpi .sle (IntOp.addi (IntOp.muli (Scf.iv 0#32 1#32 k) 1024#32) (iota .tc S256x1024 32 [1] iota_S256x1024_d1_w32 (ix2 r c)))
          (broadcastTo S256x1024 (k0_pay2 i) broadcasts_S256x1_S256x1024 (ix2 r c))) := rfl
  rw [e, spread_apply _ _ (by norm_num), pay2_apply, iota1_apply, tile_dot r _ k hk c, iv_eq,
    show IntOp.addi (IntOp.muli (BitVec.ofNat 32 k) 1024#32) (BitVec.ofNat 32 c.val) = BitVec.ofNat 32 (k * 1024 + c.val) by
      rw [BitVec.ofNat_add, BitVec.ofNat_mul]; rfl, cmpi_sle_ofNat (by omega) (by omega), andi_ofBool, ← Bool.decide_and]
  refine congrArg BitVec.ofBool (decide_eq_decide.2 ?_)
  have hb : (⟨k * 16 + c.val / 64, by omega⟩ : Fin 32) = ⟨(key k hk c).val / 64, by have := (key k hk c).isLt; omega⟩ :=
    Fin.ext (by show k * 16 + c.val / 64 = (k * 1024 + c.val) / 64; omega)
  rw [hb]
  refine and_congr_left fun hj => ?_
  rw [selM_apply i x2 ck r _ (by show (k * 1024 + c.val) / 64 * 64 ≤ pos i r; omega)]
  split
  · exact iff_of_true half_lt.1 ‹_›
  · exact iff_of_false (not_lt.2 half_lt.2.le) ‹_›

end Masks

/-- A tile's scores. -/
theorem pay32_apply (x2 : Vec Ideal S256x128 .f32) (y : Vec Ideal S1024x128 .f32) (r : Fin 256) (c : Fin 1024) :
    k0_pay32 (k0_pay1 x2) y (ix2 r c) = score (qrow x2 r) fun d => y (ix2 c d) := by
  unfold k0_pay32
  refine (mulf_apply ..).trans ?_
  refine congrArg₂ (· * ·) ((mm_trans (φ₁ := .f32) (φ₂ := .f32) dot_S256x128_S1024x128_S256x1024_1_1_0_0_n_n rfl _ _ r c).trans ?_) rfl
  rw [pay1_eq, shapeCast_self]

theorem pay33_eq (v2 : FVec Ideal S256x128 .f32) (y : Vec Ideal S1024x128 .f32) : k0_pay33 v2 y = k0_pay32 v2 y := shapeCast_self _ _

/-- A part of a matrix, read through its offsets. -/
theorem read_part {Val : EltTy → Type} {κ : Kind} {sp : Space} {d : Fin 2 → ℕ} {e : EltTy} (v : View sig κ sp ⟨2, d⟩ e) (f : v.ty.Contents Val)
    {off size : Fin 2 → ℕ} (inb : ∀ a, off a + size a ≤ d a) {a b : ℕ} (hoff : off = ![a, b])
    (x : (Rect.unit (s := ⟨2, d⟩) off size inb).toLoadRect.shape.Idx) (y : (⟨2, d⟩ : Shape).Idx)
    (h0 : (y 0).val = a + (x 0).val) (h1 : (y 1).val = b + (x 1).val) :
    View.readAt Val v (Rect.unit (s := ⟨2, d⟩) off size inb).toLoadRect f x = v.read Val f y := by
  subst hoff
  rw [View.readAt_apply]
  refine congrArg _ (funext fun k => Fin.ext ?_)
  match k with
  | ⟨0, _⟩ => show a + 1 * (x 0).val = (y 0).val; omega
  | ⟨1, _⟩ => show b + 1 * (x 1).val = (y 1).val; omega

/-! ## From tiles to the row -/

theorem sup_tile (f : Fin 2048 → EReal) (k : ℕ) (hk : k < 2) :
    (Finset.univ.sup fun j : Fin 2048 => if j.val < (k + 1) * 1024 then f j else ⊥)
      = max (Finset.univ.sup fun j : Fin 2048 => if j.val < k * 1024 then f j else ⊥) (Finset.univ.sup fun c : Fin 1024 => f (key k hk c)) := by
  apply le_antisymm
  · refine Finset.sup_le fun j _ => ?_
    split
    · by_cases h : j.val < k * 1024
      · refine le_max_of_le_left ?_
        refine le_trans ?_ (Finset.le_sup (f := fun j : Fin 2048 => if j.val < k * 1024 then f j else ⊥) (Finset.mem_univ j))
        rw [if_pos h]
      · refine le_max_of_le_right ?_
        have e : key k hk ⟨j.val - k * 1024, by omega⟩ = j := Fin.ext (by show k * 1024 + (j.val - k * 1024) = j.val; omega)
        refine le_trans (le_of_eq ?_) (Finset.le_sup (f := fun c : Fin 1024 => f (key k hk c)) (Finset.mem_univ ⟨j.val - k * 1024, by omega⟩))
        exact congrArg f e.symm
    · exact bot_le
  · refine max_le (Finset.sup_le fun j _ => ?_) (Finset.sup_le fun c _ => ?_)
    · split
      · refine le_trans (le_of_eq ?_) (Finset.le_sup (f := fun j : Fin 2048 => if j.val < (k + 1) * 1024 then f j else ⊥) (Finset.mem_univ j))
        rw [if_pos (by omega)]
      · exact bot_le
    · have := c.isLt
      refine le_trans (le_of_eq ?_) (Finset.le_sup (f := fun j : Fin 2048 => if j.val < (k + 1) * 1024 then f j else ⊥) (Finset.mem_univ (key k hk c)))
      rw [if_pos (by show k * 1024 + c.val < _; omega)]

theorem sum_part (f : Fin 2048 → EReal) (a L : ℕ) (h : a + L ≤ 2048) :
    (∑ j : Fin 2048, if a ≤ j.val ∧ j.val < a + L then f j else 0) = ∑ c : Fin L, f ⟨a + c.val, by omega⟩ := by
  rw [← Finset.sum_filter]
  refine (Finset.sum_bij (fun (c : Fin L) _ => (⟨a + c.val, by omega⟩ : Fin 2048)) ?_ ?_ ?_ ?_).symm
  · intro c _
    exact Finset.mem_filter.2 ⟨Finset.mem_univ _, by show a ≤ a + c.val; omega, by show a + c.val < a + L; omega⟩
  · intro c _ c' _ h
    have := congrArg Fin.val h
    exact Fin.ext (by simpa using this)
  · intro j hj
    obtain ⟨_, h1, h2⟩ := Finset.mem_filter.1 hj
    exact ⟨⟨j.val - a, by omega⟩, Finset.mem_univ _, Fin.ext (by show a + (j.val - a) = j.val; omega)⟩
  · intro c _
    rfl

theorem sum_tile (f : Fin 2048 → EReal) (k : ℕ) (hk : k < 2) :
    (∑ j : Fin 2048, if j.val < (k + 1) * 1024 then f j else 0)
      = (∑ j : Fin 2048, if j.val < k * 1024 then f j else 0) + ∑ c : Fin 1024, f (key k hk c) := by
  refine Eq.trans ?_ (congrArg _ (sum_part f (k * 1024) 1024 (by omega)))
  rw [← Finset.sum_add_distrib]
  refine Finset.sum_congr rfl fun j _ => ?_
  by_cases h : j.val < k * 1024
  · rw [if_pos h, if_pos (by omega), if_neg (by omega), add_zero]
  · by_cases h' : j.val < (k + 1) * 1024
    · rw [if_neg h, if_pos h', if_pos (by omega), zero_add]
    · rw [if_neg h, if_neg h', if_neg (by omega), zero_add]

end Cert.KernelIdeal.Hand

end
-- ==== Proof.HostIn.lean ====
module

public import proofs.«01_k».proof.Proof.KerTile
public import Idealize.ShloMosaic.Lib.Routing.OpsOne
public import Idealize.ShloMosaic.Lib.IdealHost
public import Idealize.ShloMosaic.Lib.Claim
public import Idealize.ShloMosaic.Lib.StableHlo.RunRead

@[expose] public section

/-! # The arrays the kernel is launched on

What the operations before the launch compute: the three inputs as matrices of 512 columns, the two pooling matrices, and the gate matrix and
bias padded to 128 columns. -/

set_option maxRecDepth 16384

noncomputable section

namespace Cert.KernelIdeal.Hand

open Cert.KernelIdeal Cert.KernelIdeal.Gen Cert.Nsa
open Idealize.ShloMosaic Idealize.ShloMosaic.TcCoe Idealize.ShloMosaic.ValueIdx Idealize.ShloMosaic.WordCmp
open Idealize.ShloMosaic.StableHlo

/-- Column indices along the rows of a square, row indices along its columns. -/
def rowN : IVec S128x1 32 := broadcastInDim S128x1 ![0] bcast_S128_S128x1_0 (iotaInDim S128 32 0)
def colN : IVec S1x128 32 := broadcastInDim S1x128 ![1] bcast_S128_S1x128_1 (iotaInDim S128 32 0)

/-- The diagonal, and the one above it, with a last axis of length one. -/
def eye0 : FVec Ideal S128x128x1 .f32 :=
  broadcastInDim S128x128x1 ![0, 1] bcast_S128x128_S128x128x1_0_1 (uitofp .f32 (cmpi .eq (broadcastInDim S128x128 ![0, 1] bcast_S1x128_S128x128_0_1 colN)
    (broadcastInDim S128x128 ![0, 1] bcast_S128x1_S128x128_0_1 rowN)))
def eye1 : FVec Ideal S128x128x1 .f32 :=
  broadcastInDim S128x128x1 ![0, 1] bcast_S128x128_S128x128x1_0_1 (uitofp .f32 (cmpi .eq (broadcastInDim S128x128 ![0, 1] bcast_S1x128_S128x128_0_1 colN)
    (broadcastInDim S128x128 ![0, 1] bcast_S128x1_S128x128_0_1 (addi rowN (broadcastInDim S128x1 ![] bcast_S_S128x1 (constantI S_ 32 1#32))))))

/-- Half of the pooling weights along the last axis of a stack. -/
def half0 (w : FVec Ideal S32 .f32) : FVec Ideal S128x128x16 .f32 :=
  broadcastInDim S128x128x16 ![0, 1, 2] bcast_S1x1x16_S128x128x16_0_1_2 (broadcastInDim S1x1x16 ![2] bcast_S16_S1x1x16_2 (extractStridedSlice S16 ![0] w slices_S32_S16_0))
def half1 (w : FVec Ideal S32 .f32) : FVec Ideal S128x128x16 .f32 :=
  broadcastInDim S128x128x16 ![0, 1, 2] bcast_S1x1x16_S128x128x16_0_1_2 (broadcastInDim S1x1x16 ![2] bcast_S16_S1x1x16_2 (extractStridedSlice S16 ![16] w slices_S32_S16_16))

/-- The pooling matrix before its two last axes are joined. -/
def stack (w : FVec Ideal S32 .f32) : FVec Ideal S128x128x16 .f32 :=
  addf (mulf (broadcastInDim S128x128x16 ![0, 1, 2] bcast_S128x128x1_S128x128x16_0_1_2 eye0) (half0 w))
    (mulf (broadcastInDim S128x128x16 ![0, 1, 2] bcast_S128x128x1_S128x128x16_0_1_2 eye1) (half1 w))

/-- The pooling matrix. -/
def poolM (w : FVec Ideal S32 .f32) : FVec Ideal S128x2048 .bf16 :=
  truncf .bf16 (shapeCast S128x2048 (stack w) shapeCasts_S128x128x16_S128x2048) bitsLt_bf16_f32

/-- The padded gate matrix and bias. -/
def padW (x : FVec Ideal S128x3 .f32) : FVec Ideal S128x128 .f32 :=
  Host.scatter scatter_S128x128_S1_S128x3_01_n_1_0 (fun _ b => b) (broadcastInDim S128x128 ![] bcast_S_S128x128 (constant S_ .f32 0x00000000#32))
    (broadcastInDim S1 ![] bcast_S_S1 (constantI S_ 32 0#32)) x
def padB (x : FVec Ideal S3 .f32) : FVec Ideal S1x128 .f32 :=
  Host.scatter scatter_S1x128_S2_S3_0_0_01_0 (fun _ b => b) (broadcastInDim S1x128 ![] bcast_S_S1x128 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) x

section Reads

variable (m : (ℓ : Loc nD τ sig) → Buf (Elt Ideal) ℓ) (c : Dev nD)

theorem V_v28 : V m c main_call0_v28 = poolM (m ((c : Thread nD τ).loc main_arg3)) := by
  unfold_abbrev_sides; after_reads_simp; rfl
theorem V_v41 : V m c main_call0_v41 = poolM (m ((c : Thread nD τ).loc main_arg4)) := by
  unfold_abbrev_sides; after_reads_simp; rfl
attribute [local irreducible] Host.scatter in
theorem V_v44 : V m c main_call0_v44 = padW (m ((c : Thread nD τ).loc main_arg5)) := by
  unfold_abbrev_sides; after_reads_simp; unfold padW; rfl
attribute [local irreducible] Host.scatter concatenate in
theorem V_v49 : V m c main_call0_v49 = padB (m ((c : Thread nD τ).loc main_arg6)) := by
  unfold_abbrev_sides; after_reads_simp; unfold padB
  have h46 : StableHlo.upto [hostOps0 (F := Ideal)].flatten (fun b => m (c, b)) 54 (Proc.tc.devRef main_call0_v46) = (broadcastInDim S1 ![] bcast_S_S1 (constantI S_ 32 0#32) : IVec S1 32) := by
    after_reads_simp; rfl
  have h47 : StableHlo.upto [hostOps0 (F := Ideal)].flatten (fun b => m (c, b)) 54 (Proc.tc.devRef main_call0_v47) = (broadcastInDim S1 ![] bcast_S_S1 (constantI S_ 32 0#32) : IVec S1 32) := by
    after_reads_simp; rfl
  have key : ∀ a b : IVec S1 32, a = broadcastInDim S1 ![] bcast_S_S1 (constantI S_ 32 0#32) → b = broadcastInDim S1 ![] bcast_S_S1 (constantI S_ 32 0#32) →
      Host.scatter scatter_S1x128_S2_S3_0_0_01_0 (fun _ b => b) (broadcastInDim S1x128 ![] bcast_S_S1x128 (constant (F := Ideal) S_ .f32 0x00000000#32))
        (concatenate S2 0 [⟨S1, a⟩, ⟨S1, b⟩] concatenates_S1_S1_S2_d0) (m ((c : Thread nD τ).loc main_arg6) : FVec Ideal S3 .f32)
      = padB (m ((c : Thread nD τ).loc main_arg6)) := by
    rintro a b rfl rfl; rfl
  exact key _ _ h46 h47
theorem V_v50 : V m c main_call0_v50 = shapeCast S2048x512 (m ((c : Thread nD τ).loc main_arg0) : FVec Ideal S1x2048x4x128 .f32) shapeCasts_S1x2048x4x128_S2048x512 := by
  unfold_abbrev_sides; after_reads_simp; rfl
theorem V_v51 : V m c main_call0_v51 = shapeCast S2048x512 (m ((c : Thread nD τ).loc main_arg1) : FVec Ideal S1x2048x4x128 .f32) shapeCasts_S1x2048x4x128_S2048x512 := by
  unfold_abbrev_sides; after_reads_simp; rfl
theorem V_v52 : V m c main_call0_v52 = shapeCast S2048x512 (m ((c : Thread nD τ).loc main_arg2) : FVec Ideal S1x2048x4x128 .f32) shapeCasts_S1x2048x4x128_S2048x512 := by
  unfold_abbrev_sides; after_reads_simp; rfl

end Reads

end Cert.KernelIdeal.Hand

end
-- ==== Proof.Whole.lean ====
module

public import proofs.«01_k».proof.Proof.Spec

@[expose] public section

/-! # The whole result

The output at position `t`, head `h` and feature `d`, from the seven arguments. -/

noncomputable section

namespace Cert.Nsa

open Idealize.ShloMosaic Idealize.ShloMosaic.ValueIdx

/-- The shape of queries, keys, values and result. -/
abbrev SHead : Shape := ⟨4, ![1, 2048, 4, 128]⟩

/-- The rows of head `h`. -/
def headRows (x : SHead.Idx → EReal) (h : Fin 4) (t : Fin 2048) (d : Fin 128) : EReal := x (ix4 0 t h d)

/-- A vector's entries. -/
def entries (w : (⟨1, ![32]⟩ : Shape).Idx → EReal) (k : Fin 32) : EReal := w (ix1 k)

/-- The output at position `t`, head `h`, feature `d`. -/
def nsa (x0 x1 x2 : SHead.Idx → EReal) (x3 x4 : (⟨1, ![32]⟩ : Shape).Idx → EReal) (x5 : (⟨2, ![128, 3]⟩ : Shape).Idx → EReal)
    (x6 : (⟨1, ![3]⟩ : Shape).Idx → EReal) (t : Fin 2048) (h : Fin 4) (d : Fin 128) : EReal :=
  rowOut (headRows x0 h t) t.val (headRows x1 h) (headRows x2 h) (pool (entries x3) (headRows x1 h)) (pool (entries x4) (headRows x2 h))
    (gate (headRows x0 h t) (fun d c => x5 (ix2 d c)) (fun c => x6 (ix1 c))) d

/-- A masked weight, as the reference writes it. -/
theorem masked_num (P : Prop) [Decidable P] (s m : EReal) :
    Ideal.exp ((if P then s else ⊥) - m) * (if P then 1 else 0) = if P then Ideal.exp (s - m) else 0 := by
  by_cases h : P
  · rw [if_pos h, if_pos h, if_pos h, mul_one]
  · rw [if_neg h, if_neg h, if_neg h, mul_zero]

/-- Attention with the weights normalised before the product. -/
theorem attend_sum (q : Fin 128 → EReal) (K V : Fin 2048 → Fin 128 → EReal) (P : Fin 2048 → Prop) [DecidablePred P] (d : Fin 128) :
    (∑ j, Ideal.div (snum P (fun j => score q (K j)) j) (sden P fun j => score q (K j)) * V j d) = attend q K V P d := by
  rw [← div_sum _ _ _ (sden_pos _ _)]
  unfold attend
  congr!

end Cert.Nsa

end
-- ==== Proof.HostRead.lean ====
module

public import proofs.«01_k».proof.Proof.HostIn
public import proofs.«01_k».proof.Proof.Whole

@[expose] public section

/-! # The launch arrays, entry by entry

The pooling matrix has weight `w b` at `(n, 16 n + b)`, so its product with the keys is `pool`; the padded gate arrays hold the gates' columns;
the three inputs are their heads side by side. -/

set_option maxRecDepth 16384

noncomputable section

namespace Cert.KernelIdeal.Hand

open Cert.KernelIdeal Cert.KernelIdeal.Gen Cert.Nsa
open Idealize.ShloMosaic Idealize.ShloMosaic.TcCoe Idealize.ShloMosaic.ValueIdx Idealize.ShloMosaic.WordCmp

/-! ## The pooling matrix -/

theorem eye0_apply (n a : Fin 128) : eye0 (ix3 n a 0) = if a.val = n.val then 1 else 0 := by
  rw [← uind_of, ← cmpi_eq_ofNat (w := 32) (by omega) (by omega)]
  rfl

theorem eye1_apply (n a : Fin 128) : eye1 (ix3 n a 0) = if a.val = n.val + 1 then 1 else 0 := by
  rw [← uind_of, ← cmpi_eq_ofNat (w := 32) (by omega) (by omega), BitVec.ofNat_add]
  rfl

theorem half0_apply (w : FVec Ideal S32 .f32) (n a : Fin 128) (b : Fin 16) : half0 w (ix3 n a b) = entries w ⟨b.val, by omega⟩ := by
  refine congrArg w (funext fun k => ?_)
  match k with
  | ⟨0, _⟩ => exact Fin.ext (Nat.zero_add _)

theorem half1_apply (w : FVec Ideal S32 .f32) (n a : Fin 128) (b : Fin 16) : half1 w (ix3 n a b) = entries w ⟨16 + b.val, by omega⟩ := by
  refine congrArg w (funext fun k => ?_)
  match k with
  | ⟨0, _⟩ => rfl

theorem stack_apply (w : FVec Ideal S32 .f32) (n a : Fin 128) (b : Fin 16) : stack w (ix3 n a b)
    = (if a.val = n.val then entries w ⟨b.val, by omega⟩ else 0) + (if a.val = n.val + 1 then entries w ⟨16 + b.val, by omega⟩ else 0) := by
  have e : stack w (ix3 n a b) = eye0 (ix3 n a 0) * half0 w (ix3 n a b) + eye1 (ix3 n a 0) * half1 w (ix3 n a b) := rfl
  rw [e, eye0_apply, eye1_apply, half0_apply, half1_apply]
  simp only [ite_mul, one_mul, zero_mul]

theorem poolM_apply (w : FVec Ideal S32 .f32) (n : Fin 128) (c : Fin 2048) : poolM w (ix2 n c)
    = (if c.val / 16 = n.val then entries w ⟨c.val % 16, by omega⟩ else 0) + (if c.val / 16 = n.val + 1 then entries w ⟨16 + c.val % 16, by omega⟩ else 0) := by
  refine Eq.trans ?_ (stack_apply w n ⟨c.val / 16, by omega⟩ ⟨c.val % 16, by omega⟩)
  refine Eq.trans (b := shapeCast S128x2048 (stack w) shapeCasts_S128x128x16_S128x2048 (ix2 n c)) rfl (shapeCast_apply _ _ _ _ ?_)
  rw [Shape.rowMajor_val_three, Shape.rowMajor_val_two]
  show (n.val * 128 + c.val / 16) * 16 + c.val % 16 = n.val * 2048 + c.val
  omega

/-- A row of the pooling matrix weighs 32 rows. -/
theorem poolM_term (w : FVec Ideal S32 .f32) (K : Fin 2048 → Fin 128 → EReal) (n : Fin 127) (c : Fin 2048) (d : Fin 128) :
    poolM w (ix2 n.castSucc c) * K c d
      = if 16 * n.val ≤ c.val ∧ c.val < 16 * n.val + 32 then entries w ⟨(c.val - 16 * n.val) % 32, Nat.mod_lt _ (by norm_num)⟩ * K c d else 0 := by
  have hn : (n.castSucc : Fin 128).val = n.val := rfl
  rw [poolM_apply, hn]
  by_cases h0 : c.val / 16 = n.val
  · rw [if_pos h0, if_neg (by omega), if_pos (by omega), add_zero]
    congr 2
    exact Fin.ext (by show c.val % 16 = (c.val - 16 * n.val) % 32; omega)
  · by_cases h1 : c.val / 16 = n.val + 1
    · rw [if_neg h0, if_pos h1, if_pos (by omega), zero_add]
      congr 2
      exact Fin.ext (by show 16 + c.val % 16 = (c.val - 16 * n.val) % 32; omega)
    · rw [if_neg h0, if_neg h1, if_neg (by omega), zero_add, zero_mul]

theorem poolM_sum (w : FVec Ideal S32 .f32) (K : Fin 2048 → Fin 128 → EReal) (n : Fin 127) (d : Fin 128) :
    (∑ c, poolM w (ix2 n.castSucc c) * K c d) = pool (entries w) K n d := by
  have hn := n.isLt
  simp only [poolM_term]
  rw [sum_part (fun c => entries w ⟨(c.val - 16 * n.val) % 32, Nat.mod_lt _ (by norm_num)⟩ * K c d) (16 * n.val) 32 (by omega)]
  unfold Nsa.pool
  refine Finset.sum_congr rfl fun k _ => ?_
  congr 2
  exact Fin.ext (by show (16 * n.val + k.val - 16 * n.val) % 32 = k.val; omega)

/-- The pooled keys and values. -/
theorem rows_pay3 (x : Vec Ideal S2048x128 .f32) (w : FVec Ideal S32 .f32) : rows127 (k0_pay3 x (poolM w)) = pool (entries w) (mrow (N := 2048) x) := by
  funext n d
  refine Eq.trans ?_ (poolM_sum w (mrow (N := 2048) x) n d)
  show k0_pay3 x (poolM w) (ix2 n.castSucc d) = _
  unfold k0_pay3
  rw [shapeCast_self, shapeCast_self, shapeCast_self]
  exact mm_plain (φ₁ := .bf16) (φ₂ := .bf16) dot_S128x2048_S2048x128_S128x128_1_0_0_1_n_n rfl _ _ n.castSucc d

theorem rows_pay4 (x : Vec Ideal S2048x128 .f32) (w : FVec Ideal S32 .f32) : rows127 (k0_pay4 x (poolM w)) = pool (entries w) (mrow (N := 2048) x) := by
  refine Eq.trans ?_ (rows_pay3 x w)
  rfl

/-! ## The padded gate arrays -/

/-- With every index word zero, a window starts at the origin. -/
theorem start_zero {s si u : Shape} (D : ScatterDims s si u) (idx : IVec si 32) (h : ∀ b, idx b = 0#32) (j : u.Idx) (a : Fin s.rank) : D.start j idx a = 0 := by
  unfold ScatterDims.start
  split
  · rw [h]; rfl
  · rfl

theorem padW_apply (x : FVec Ideal S128x3 .f32) (d : Fin 128) (g : Fin 3) : padW x (ix2 d (⟨g.val, by omega⟩ : Fin 128)) = x (ix2 d g) := by
  have hz : ∀ b : S1.Idx, (broadcastInDim S1 ![] bcast_S_S1 (constantI S_ 32 0#32) : IVec S1 32) b = 0#32 := fun _ => rfl
  have lands : ∀ (k : S128x3.Idx), scatter_S128x128_S1_S128x3_01_n_1_0.resultIdx? k (broadcastInDim S1 ![] bcast_S_S1 (constantI S_ 32 0#32))
      = some (ix2 d (⟨g.val, by omega⟩ : Fin 128)) ↔ (k 0).val = d.val ∧ (k 1).val = g.val := fun k => by
    have hw0 : scatter_S128x128_S1_S128x3_01_n_1_0.window k 0 = (k 0).val := by unfold ScatterDims.window; rw [dif_pos (by decide)]; rfl
    have hw1 : scatter_S128x128_S1_S128x3_01_n_1_0.window k 1 = (k 1).val := by unfold ScatterDims.window; rw [dif_pos (by decide)]; rfl
    refine (Routing.resultIdx?_ix2 ..).trans ?_
    rw [start_zero _ _ hz, start_zero _ _ hz, hw0, hw1]
    show (0 + ((k 0).val : ℤ) = d.val ∧ 0 + ((k 1).val : ℤ) = g.val) ↔ _
    omega
  unfold padW
  refine Routing.scatter_set_hit _ _ _ _ _ _ (fun k hk => ?_) (ix2 d g) ((lands _).2 ⟨rfl, rfl⟩)
  obtain ⟨h0, h1⟩ := (lands k).1 hk
  refine congrArg x (funext fun a => ?_)
  match a with
  | ⟨0, _⟩ => exact Fin.ext h0
  | ⟨1, _⟩ => exact Fin.ext h1

theorem padB_apply (x : FVec Ideal S3 .f32) (g : Fin 3) : padB x (ix2 0 (⟨g.val, by omega⟩ : Fin 128)) = x (ix1 g) := by
  have hz : ∀ b : S2.Idx, (concatenate S2 0 [⟨S1, broadcastInDim S1 ![] bcast_S_S1 (constantI S_ 32 0#32)⟩, ⟨S1, broadcastInDim S1 ![] bcast_S_S1 (constantI S_ 32 0#32)⟩]
      concatenates_S1_S1_S2_d0 : IVec S2 32) b = 0#32 := fun b => by
    obtain ⟨q, rfl⟩ : ∃ q : Fin 2, b = ix1 q := ⟨b 0, eq_ix1 b⟩
    match q with
    | ⟨0, _⟩ => rfl
    | ⟨1, _⟩ => rfl
  have lands : ∀ (k : S3.Idx), scatter_S1x128_S2_S3_0_0_01_0.resultIdx? k (concatenate S2 0 [⟨S1, broadcastInDim S1 ![] bcast_S_S1 (constantI S_ 32 0#32)⟩, ⟨S1, broadcastInDim S1 ![] bcast_S_S1 (constantI S_ 32 0#32)⟩]
      concatenates_S1_S1_S2_d0)
      = some (ix2 (0 : Fin 1) (⟨g.val, by omega⟩ : Fin 128)) ↔ (k 0).val = g.val := fun k => by
    have hw0 : scatter_S1x128_S2_S3_0_0_01_0.window k 0 = 0 := by unfold ScatterDims.window; rw [dif_neg (by decide)]
    have hw1 : scatter_S1x128_S2_S3_0_0_01_0.window k 1 = (k 0).val := by unfold ScatterDims.window; rw [dif_pos (by decide)]; rfl
    refine (Routing.resultIdx?_ix2 ..).trans ?_
    rw [start_zero _ _ hz, start_zero _ _ hz, hw0, hw1]
    show ((0 : ℤ) + ((0 : ℕ) : ℤ) = ((0 : ℕ) : ℤ) ∧ 0 + ((k 0).val : ℤ) = g.val) ↔ _
    omega
  unfold padB
  refine Routing.scatter_set_hit _ _ _ _ _ _ (fun k hk => ?_) (ix1 g) ((lands _).2 rfl)
  refine congrArg x (funext fun a => ?_)
  match a with
  | ⟨0, _⟩ => exact Fin.ext ((lands k).1 hk)

/-! ## The heads side by side -/

theorem flat_apply (x : FVec Ideal S1x2048x4x128 .f32) (t : Fin 2048) (h : Fin 4) (d : Fin 128) (c : Fin 512) (hc : c.val = h.val * 128 + d.val) :
    shapeCast S2048x512 x shapeCasts_S1x2048x4x128_S2048x512 (ix2 t c) = headRows x h t d := by
  refine shapeCast_apply x _ _ (ix4 0 t h d) ?_
  rw [Shape.rowMajor_val_four, Shape.rowMajor_val_two]
  show ((0 * 2048 + t.val) * 4 + h.val) * 128 + d.val = t.val * 512 + c.val
  omega

theorem unflat_apply (y : FVec Ideal S2048x512 .f32) (i : S1x2048x4x128.Idx) (c : Fin 512) (hc : c.val = (i 2).val * 128 + (i 3).val) :
    shapeCast S1x2048x4x128 y shapeCasts_S2048x512_S1x2048x4x128 i = y (ix2 (i 1 : Fin 2048) c) := by
  have h0 : (i 0).val < 1 := (i 0).isLt
  refine shapeCast_apply y _ _ _ ?_
  rw [Shape.rowMajor_val_four, Shape.rowMajor_val_two]
  show (i 1).val * 512 + c.val = (((i 0).val * 2048 + (i 1).val) * 4 + (i 2).val) * 128 + (i 3).val
  omega

end Cert.KernelIdeal.Hand

end
-- ==== Proof.KerPass.lean ====
module

public import proofs.«01_k».proof.Proof.KerTile

@[expose] public section

/-! # The two passes over the key tiles -/

set_option maxRecDepth 16384

noncomputable section

namespace Cert.KernelIdeal.Hand

open Cert.KernelIdeal Cert.KernelIdeal.Gen Cert.Nsa
open Idealize.ShloMosaic Idealize.ShloMosaic.TcCoe Idealize.ShloMosaic.ValueIdx Idealize.ShloMosaic.WordCmp

/-- The row's score against key `j`. -/
abbrev rscore (x2 : Vec Ideal S256x128 .f32) (x3 : Vec Ideal S2048x128 .f32) (r : Fin 256) (j : Fin 2048) : EReal := score (qrow x2 r) (mrow (N := 2048) x3 j)

section Payloads

variable (i : grid0.Coords) (x2 : Vec Ideal S256x128 .f32) (ck : Vec Ideal S128x128 .f32) (r : Fin 256)

/-- The running maximum, raised by a tile. -/
theorem pay34_apply (k : Fin (k0_t1_loop i).trips) (hk : k.val < 2) (acc : FVec Ideal S256x1 .f32) (y : Vec Ideal S1024x128 .f32)
    (f : Fin 2048 → EReal) (hf : ∀ c : Fin 1024, (score (qrow x2 r) fun d => y (ix2 c d)) = f (key k.val hk c)) :
    k0_pay34 i (k0_pay1 x2) (k0_pay2 i) (selM i (k0_pay5 i x2 ck)) rowI k0_pay30 colI k acc y (ix2 r 0)
      = max (acc (ix2 r 0)) (Finset.univ.sup fun c : Fin 1024 => if rsel i x2 ck r (key k.val hk c) then f (key k.val hk c) else ⊥) := by
  have h := smax_col (tmask (k0_pay2 i) (selM i (k0_pay5 i x2 ck)) k.val) (k0_pay32 (k0_pay1 x2) y) r (fun c => rsel i x2 ck r (key k.val hk c))
    (fun c => f (key k.val hk c)) (fun c _ => (pay32_apply x2 y r c).trans (hf c)) (tmask_apply i x2 ck r k.val hk) reduces_S256x1024_S256 shapeCasts_S256_S256x1 (.inl rfl) rfl
  unfold k0_pay34
  refine (maximumf_apply ..).trans ?_
  exact congrArg (max (acc (ix2 r 0))) h

/-- A tile's weights under the maximum. -/
theorem pay43_apply (k : Fin (k0_t3_loop i).trips) (hk : k.val < 2) (M : FVec Ideal S256x1 .f32) (y : Vec Ideal S256x1024 .f32)
    (f : Fin 2048 → EReal) (hM : M (ix2 r 0) = smax (rsel i x2 ck r) f) (hf : ∀ c : Fin 1024, y (ix2 r c) = f (key k.val hk c)) (c : Fin 1024) :
    k0_pay43 i (k0_pay2 i) (selM i (k0_pay5 i x2 ck)) rowI k0_pay30 colI M k y (ix2 r c) = snum (rsel i x2 ck r) f (key k.val hk c) := by
  have e : k0_pay43 i (k0_pay2 i) (selM i (k0_pay5 i x2 ck)) rowI k0_pay30 colI M k y (ix2 r c)
      = Scalar.select (tmask (k0_pay2 i) (selM i (k0_pay5 i x2 ck)) k.val (ix2 r c))
          (Ideal.exp (y (ix2 r c) - broadcastTo S256x1024 M broadcasts_S256x1_S256x1024 (ix2 r c))) (Scalar.ofBits .f32 0x00000000#32 : Ideal .f32) := rfl
  rw [e, tmask_apply i x2 ck r k.val hk, sel_of, spread_apply _ _ (by norm_num), hM, hf, zero_bits]
  rfl

theorem pay44_apply (k : Fin (k0_t3_loop i).trips) (hk : k.val < 2) (M : FVec Ideal S256x1 .f32) (y : Vec Ideal S256x1024 .f32)
    (f : Fin 2048 → EReal) (hM : M (ix2 r 0) = smax (rsel i x2 ck r) f) (hf : ∀ c : Fin 1024, y (ix2 r c) = f (key k.val hk c))
    (acc : FVec Ideal S256x128 .f32) (z : Vec Ideal S1024x128 .f32) (d : Fin 128) :
    k0_pay44 i (k0_pay2 i) (selM i (k0_pay5 i x2 ck)) rowI k0_pay30 colI M k acc y z (ix2 r d)
      = acc (ix2 r d) + ∑ c : Fin 1024, snum (rsel i x2 ck r) f (key k.val hk c) * z (ix2 c d) := by
  unfold k0_pay44
  refine (addf_apply ..).trans ?_
  refine congrArg (acc (ix2 r d) + ·) ((mm_plain (φ₁ := .f32) (φ₂ := .f32) dot_S256x1024_S1024x128_S256x128_1_0_0_1_n_n rfl _ _ r d).trans ?_)
  refine Finset.sum_congr rfl fun c _ => ?_
  rw [pay43_apply i x2 ck r k hk M y f hM hf c, shapeCast_self]

theorem pay45_apply (k : Fin (k0_t3_loop i).trips) (hk : k.val < 2) (M : FVec Ideal S256x1 .f32) (y : Vec Ideal S256x1024 .f32)
    (f : Fin 2048 → EReal) (hM : M (ix2 r 0) = smax (rsel i x2 ck r) f) (hf : ∀ c : Fin 1024, y (ix2 r c) = f (key k.val hk c))
    (acc : FVec Ideal S256x1 .f32) :
    k0_pay45 i (k0_pay2 i) (selM i (k0_pay5 i x2 ck)) rowI k0_pay30 colI M k acc y (ix2 r 0)
      = acc (ix2 r 0) + ∑ c : Fin 1024, snum (rsel i x2 ck r) f (key k.val hk c) := by
  unfold k0_pay45
  refine (addf_apply ..).trans ?_
  refine congrArg (acc (ix2 r 0) + ·) ((col_apply _ _ r).trans ((rowSum _ _ (.inl rfl) rfl r).trans ?_))
  exact Finset.sum_congr rfl fun c _ => pay43_apply i x2 ck r k hk M y f hM hf c

end Payloads

section Point

variable (c : Dev nD) (i : grid0.Coords)
    (arg2 : Memref sig .tc .vmem S256x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S128x2048 .bf16) (harg5 : arg5.IsWhole)
    (arg6 : Memref sig .tc .vmem S128x2048 .bf16) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S256x128 .f32) (harg9 : arg9.IsWhole)
    (arg10 : Memref sig .tc .vmem S256x2048 .f32) (harg10 : arg10.IsWhole)
    (arg11 : Memref sig .tc .vmem S128x128 .f32) (harg11 : arg11.IsWhole)
    (arg12 : Memref sig .tc .vmem S128x128 .f32) (harg12 : arg12.IsWhole)
    (x2 : Vec Ideal S256x128 .f32) (x3 x4 : Vec Ideal S2048x128 .f32) (f10 : BufTy.Contents (Elt Ideal) arg10.view.ty) (ck cv : Vec Ideal S128x128 .f32) (r : Fin 256)

theorem lt2 {n : ℕ} (h : n < (k0_t1_loop i).trips) : n < 2 := by
  rw [trips1] at h; split at h <;> omega

theorem lt2' {n : ℕ} (h : n < (k0_t3_loop i).trips) : n < 2 := by
  rw [trips3] at h; split at h <;> omega

/-- The first pass after `n` tiles: the running maximum over their keys, and their scores stored. -/
theorem pass1 (n : ℕ) (hn : n ≤ (k0_t1_loop i).trips) :
    (st_k0_t1 Variants.none c none i arg2 harg2 arg3 harg3 arg4 harg4 arg5 harg5 arg6 harg6 arg7 harg7 arg8 harg8 arg9 harg9 arg10 harg10 arg11 harg11 arg12 harg12 (w1 i) (k0_pay1 x2) (k0_pay2 i) (selM i (k0_pay5 i x2 ck)) rowI k0_pay30 colI (w257 i) 1024#32
      (w258 i) (w260 i) (w262 i) (harg3.unread x3) k0_pay31 n).1 (ix2 r 0)
      = (Finset.univ.sup fun j : Fin 2048 => if j.val < n * 1024 then (if rsel i x2 ck r j then rscore x2 x3 r j else ⊥) else ⊥)
    ∧ ∀ j : Fin 2048, j.val < n * 1024 → arg10.view.read (Elt Ideal) (arg10.view.writes (Elt Ideal) f10
      (st_k0_t1 Variants.none c none i arg2 harg2 arg3 harg3 arg4 harg4 arg5 harg5 arg6 harg6 arg7 harg7 arg8 harg8 arg9 harg9 arg10 harg10 arg11 harg11 arg12 harg12 (w1 i) (k0_pay1 x2) (k0_pay2 i) (selM i (k0_pay5 i x2 ck)) rowI k0_pay30 colI (w257 i) 1024#32
      (w258 i) (w260 i) (w262 i) (harg3.unread x3) k0_pay31 n).2) (ix2 r j) = rscore x2 x3 r j := by
  induction n with
  | zero =>
    constructor
    · refine (congrFun (st_k0_t1_zero ..) _).trans ?_
      refine Eq.trans (b := (⊥ : EReal)) mask_bot ?_
      simp
    · intro j hj; omega
  | succ n ih =>
    obtain ⟨ih1, ih2⟩ := ih (by omega)
    have hk : n < 2 := lt2 i (n := n) (by omega)
    have hy : ∀ (cc : Fin 1024) (d : Fin 128), View.readAt (Elt Ideal) arg3.view (Rect.unit (s := S2048x128) (k0_off1 i ⟨n, hn⟩) S1024x128.size (k0_off1_inb i ⟨n, hn⟩)).toLoadRect
        (harg3.unread x3) (ix2 cc d) = x3 (ix2 (key n hk cc) d) := fun cc d => by
      refine (read_part arg3.view (harg3.unread x3) _ (off1_eq i ⟨n, hn⟩) _ (ix2 (key n hk cc) d) (by exact rfl) (by exact (Nat.zero_add _).symm)).trans ?_
      rw [harg3.read_unread]
    rw [st_k0_t1_succ Variants.none c none i arg2 harg2 arg3 harg3 arg4 harg4 arg5 harg5 arg6 harg6 arg7 harg7 arg8 harg8 arg9 harg9 arg10 harg10 arg11 harg11 arg12 harg12 _ _ _ _ _ _ _ _ _ _ _ _ _ _ ⟨n, hn⟩, tripR1, tripL1]
    dsimp only
    constructor
    · rw [pay34_apply i x2 ck r ⟨n, hn⟩ hk _ _ (rscore x2 x3 r) (fun cc => by simp only [hy]), sup_tile _ n hk]
      exact congrArg (max · _) ih1
    · intro j hj
      rw [List.singleton_append]
      by_cases h : j.val < n * 1024
      · rw [View.read_writes_cons_unit_of_not_mem _ _ _ _ _ _ (off2_eq i ⟨n, hn⟩) 1 (.inl h)]
        exact ih2 j h
      · rw [View.read_writes_cons_unit_of_mem (s := S256x2048) (size := S256x1024.size) _ _ _ _ _ (ix2 r j) (ix2 r (⟨j.val - n * 1024, by omega⟩ : Fin 1024)) (off2_eq i ⟨n, hn⟩) (by
          intro a
          match a with
          | ⟨0, _⟩ => exact (Nat.zero_add _).symm
          | ⟨1, _⟩ => show j.val = n * 1024 + (j.val - n * 1024); omega)]
        rw [pay33_eq, pay32_apply]
        simp only [hy]
        rw [show key n hk ⟨j.val - n * 1024, by omega⟩ = j from Fin.ext (by show n * 1024 + (j.val - n * 1024) = j.val; omega)]

/-- A key the row may look at is in a tile that was visited. -/
theorem in_tiles (j : Fin 2048) (h : j.val ≤ pos i r) : j.val < (k0_t1_loop i).trips * 1024 := by
  have := row_lt i; have := r.isLt
  rw [trips1]
  split <;> simp only [pos] at h <;> omega

theorem trips13 : (k0_t3_loop i).trips = (k0_t1_loop i).trips := (trips3 i).trans (trips1 i).symm

include f10 in
theorem runA_max :
    (runA c i arg2 harg2 arg3 harg3 arg4 harg4 arg5 harg5 arg6 harg6 arg7 harg7 arg8 harg8 arg9 harg9 arg10 harg10 arg11 harg11 arg12 harg12 x2 x3 ck).1 (ix2 r 0) = smax (rsel i x2 ck r) (rscore x2 x3 r) := by
  refine ((pass1 c i arg2 harg2 arg3 harg3 arg4 harg4 arg5 harg5 arg6 harg6 arg7 harg7 arg8 harg8 arg9 harg9 arg10 harg10 arg11 harg11 arg12 harg12 x2 x3 f10 ck r _ le_rfl).1).trans ?_
  refine Finset.sup_congr rfl fun j _ => ?_
  by_cases h : rsel i x2 ck r j
  · rw [if_pos (in_tiles i r j h.2)]
  · rw [if_neg h, ite_self]

theorem runB_eq : runB c i arg2 harg2 arg3 harg3 arg4 harg4 arg5 harg5 arg6 harg6 arg7 harg7 arg8 harg8 arg9 harg9 arg10 harg10 arg11 harg11 arg12 harg12 x2 x3 ck = ((runA c i arg2 harg2 arg3 harg3 arg4 harg4 arg5 harg5 arg6 harg6 arg7 harg7 arg8 harg8 arg9 harg9 arg10 harg10 arg11 harg11 arg12 harg12 x2 x3 ck).1, []) := by
  unfold runB
  rw [show Scf.trips (k0_t2_loop i).lb (k0_t2_loop i).ub (k0_t2_loop i).st = 0 from trips2 i]
  rfl

/-- The score scratch, at the keys of the tiles visited. -/
theorem scrV_apply (j : Fin 2048) (h : j.val < (k0_t1_loop i).trips * 1024) :
    arg10.view.read (Elt Ideal) (scrV c i arg2 harg2 arg3 harg3 arg4 harg4 arg5 harg5 arg6 harg6 arg7 harg7 arg8 harg8 arg9 harg9 arg10 harg10 arg11 harg11 arg12 harg12 x2 x3 f10 ck) (ix2 r j) = rscore x2 x3 r j := by
  unfold scrV
  rw [runB_eq]
  exact (pass1 c i arg2 harg2 arg3 harg3 arg4 harg4 arg5 harg5 arg6 harg6 arg7 harg7 arg8 harg8 arg9 harg9 arg10 harg10 arg11 harg11 arg12 harg12 x2 x3 f10 ck r _ le_rfl).2 j h

end Point

end Cert.KernelIdeal.Hand

end
-- ==== Proof.KerSum.lean ====
module

public import proofs.«01_k».proof.Proof.KerPass

@[expose] public section

/-! # The second pass: the selected keys' weighted values and weights -/

set_option maxRecDepth 16384

noncomputable section

namespace Cert.KernelIdeal.Hand

open Cert.KernelIdeal Cert.KernelIdeal.Gen Cert.Nsa
open Idealize.ShloMosaic Idealize.ShloMosaic.TcCoe Idealize.ShloMosaic.ValueIdx Idealize.ShloMosaic.WordCmp

section Point

variable (c : Dev nD) (i : grid0.Coords)
    (arg2 : Memref sig .tc .vmem S256x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S128x2048 .bf16) (harg5 : arg5.IsWhole)
    (arg6 : Memref sig .tc .vmem S128x2048 .bf16) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S256x128 .f32) (harg9 : arg9.IsWhole)
    (arg10 : Memref sig .tc .vmem S256x2048 .f32) (harg10 : arg10.IsWhole)
    (arg11 : Memref sig .tc .vmem S128x128 .f32) (harg11 : arg11.IsWhole)
    (arg12 : Memref sig .tc .vmem S128x128 .f32) (harg12 : arg12.IsWhole)
    (x2 : Vec Ideal S256x128 .f32) (x3 x4 : Vec Ideal S2048x128 .f32) (f10 : BufTy.Contents (Elt Ideal) arg10.view.ty) (ck cv : Vec Ideal S128x128 .f32) (r : Fin 256)

/-- The weight the selected branch gives key `j`. -/
abbrev rnum (i : grid0.Coords) (x2 : Vec Ideal S256x128 .f32) (x3 : Vec Ideal S2048x128 .f32) (ck : Vec Ideal S128x128 .f32) (r : Fin 256) (j : Fin 2048) : EReal :=
  snum (rsel i x2 ck r) (rscore x2 x3 r) j

theorem pass2 (n : ℕ) (hn : n ≤ (k0_t3_loop i).trips) :
    (∀ d : Fin 128, (st_k0_t3 Variants.none c none i arg2 harg2 arg3 harg3 arg4 harg4 arg5 harg5 arg6 harg6 arg7 harg7 arg8 harg8 arg9 harg9 arg10 harg10 arg11 harg11 arg12 harg12 (k0_pay1 x2) (k0_pay2 i) (k0_pay6 i x2 ck cv) (selM i (k0_pay5 i x2 ck)) rowI k0_pay30 colI (w274 i)
      (runB c i arg2 harg2 arg3 harg3 arg4 harg4 arg5 harg5 arg6 harg6 arg7 harg7 arg8 harg8 arg9 harg9 arg10 harg10 arg11 harg11 arg12 harg12 x2 x3 ck).1 (w285 i) (k0_pay38 (w1 i) (k0_pay2 i)) (winE c i arg2 harg2 arg3 harg3 arg4 harg4 arg5 harg5 arg6 harg6 arg7 harg7 arg8 harg8 arg9 harg9 arg10 harg10 arg11 harg11 arg12 harg12 x2 x3 f10 ck) k0_pay40
      (harg4.unread x4) (scrV c i arg2 harg2 arg3 harg3 arg4 harg4 arg5 harg5 arg6 harg6 arg7 harg7 arg8 harg8 arg9 harg9 arg10 harg10 arg11 harg11 arg12 harg12 x2 x3 f10 ck) (k0_pay41, k0_pay42) n).1 (ix2 r d)
      = ∑ j : Fin 2048, if j.val < n * 1024 then rnum i x2 x3 ck r j * x4 (ix2 j d) else 0)
    ∧ (st_k0_t3 Variants.none c none i arg2 harg2 arg3 harg3 arg4 harg4 arg5 harg5 arg6 harg6 arg7 harg7 arg8 harg8 arg9 harg9 arg10 harg10 arg11 harg11 arg12 harg12 (k0_pay1 x2) (k0_pay2 i) (k0_pay6 i x2 ck cv) (selM i (k0_pay5 i x2 ck)) rowI k0_pay30 colI (w274 i)
      (runB c i arg2 harg2 arg3 harg3 arg4 harg4 arg5 harg5 arg6 harg6 arg7 harg7 arg8 harg8 arg9 harg9 arg10 harg10 arg11 harg11 arg12 harg12 x2 x3 ck).1 (w285 i) (k0_pay38 (w1 i) (k0_pay2 i)) (winE c i arg2 harg2 arg3 harg3 arg4 harg4 arg5 harg5 arg6 harg6 arg7 harg7 arg8 harg8 arg9 harg9 arg10 harg10 arg11 harg11 arg12 harg12 x2 x3 f10 ck) k0_pay40
      (harg4.unread x4) (scrV c i arg2 harg2 arg3 harg3 arg4 harg4 arg5 harg5 arg6 harg6 arg7 harg7 arg8 harg8 arg9 harg9 arg10 harg10 arg11 harg11 arg12 harg12 x2 x3 f10 ck) (k0_pay41, k0_pay42) n).2 (ix2 r 0)
      = ∑ j : Fin 2048, if j.val < n * 1024 then rnum i x2 x3 ck r j else 0 := by
  induction n with
  | zero =>
    rw [st_k0_t3_zero]
    constructor
    · intro d
      refine Eq.trans (b := (0 : EReal)) zero_bits ?_
      simp
    · refine Eq.trans (b := (0 : EReal)) zero_bits ?_
      simp
  | succ n ih =>
    obtain ⟨ih1, ih2⟩ := ih (by omega)
    have hk : n < 2 := lt2' i (n := n) (by omega)
    have hM : (runB c i arg2 harg2 arg3 harg3 arg4 harg4 arg5 harg5 arg6 harg6 arg7 harg7 arg8 harg8 arg9 harg9 arg10 harg10 arg11 harg11 arg12 harg12 x2 x3 ck).1 (ix2 r 0) = smax (rsel i x2 ck r) (rscore x2 x3 r) := by
      rw [runB_eq]; exact runA_max c i arg2 harg2 arg3 harg3 arg4 harg4 arg5 harg5 arg6 harg6 arg7 harg7 arg8 harg8 arg9 harg9 arg10 harg10 arg11 harg11 arg12 harg12 x2 x3 f10 ck r
    have hy : ∀ cc : Fin 1024, View.readAt (Elt Ideal) arg10.view (Rect.unit (s := S256x2048) (k0_off7 i ⟨n, hn⟩) S256x1024.size (k0_off7_inb i ⟨n, hn⟩)).toLoadRect
        (scrV c i arg2 harg2 arg3 harg3 arg4 harg4 arg5 harg5 arg6 harg6 arg7 harg7 arg8 harg8 arg9 harg9 arg10 harg10 arg11 harg11 arg12 harg12 x2 x3 f10 ck) (ix2 r cc) = rscore x2 x3 r (key n hk cc) := fun cc => by
      refine (read_part arg10.view (scrV c i arg2 harg2 arg3 harg3 arg4 harg4 arg5 harg5 arg6 harg6 arg7 harg7 arg8 harg8 arg9 harg9 arg10 harg10 arg11 harg11 arg12 harg12 x2 x3 f10 ck) _ (off7_eq i ⟨n, hn⟩) _ (ix2 r (key n hk cc)) (by exact (Nat.zero_add _).symm) (by exact rfl)).trans ?_
      refine scrV_apply c i arg2 harg2 arg3 harg3 arg4 harg4 arg5 harg5 arg6 harg6 arg7 harg7 arg8 harg8 arg9 harg9 arg10 harg10 arg11 harg11 arg12 harg12 x2 x3 f10 ck r _ ?_
      rw [← trips13]
      have := cc.isLt
      show n * 1024 + cc.val < _
      have : (n + 1) * 1024 ≤ (k0_t3_loop i).trips * 1024 := Nat.mul_le_mul_right _ hn
      omega
    have hz : ∀ (cc : Fin 1024) (d : Fin 128), View.readAt (Elt Ideal) arg4.view (Rect.unit (s := S2048x128) (k0_off8 i ⟨n, hn⟩) S1024x128.size (k0_off8_inb i ⟨n, hn⟩)).toLoadRect
        (harg4.unread x4) (ix2 cc d) = x4 (ix2 (key n hk cc) d) := fun cc d => by
      refine (read_part arg4.view (harg4.unread x4) _ (off8_eq i ⟨n, hn⟩) _ (ix2 (key n hk cc) d) (by exact rfl) (by exact (Nat.zero_add _).symm)).trans ?_
      rw [harg4.read_unread]
    rw [st_k0_t3_succ Variants.none c none i arg2 harg2 arg3 harg3 arg4 harg4 arg5 harg5 arg6 harg6 arg7 harg7 arg8 harg8 arg9 harg9 arg10 harg10 arg11 harg11 arg12 harg12 _ _ _ _ _ _ _ _ _ _ _ _ _ _ _ _ ⟨n, hn⟩, tripR3]
    dsimp only
    constructor
    · intro d
      rw [pay44_apply i x2 ck r ⟨n, hn⟩ hk _ _ (rscore x2 x3 r) hM hy, sum_tile _ n hk]
      refine congrArg₂ (· + ·) (ih1 d) (Finset.sum_congr rfl fun cc _ => ?_)
      rw [hz cc d]
    · rw [pay45_apply i x2 ck r ⟨n, hn⟩ hk _ _ (rscore x2 x3 r) hM hy, sum_tile _ n hk]
      exact congrArg (· + _) ih2

theorem runD_eq : runD c i arg2 harg2 arg3 harg3 arg4 harg4 arg5 harg5 arg6 harg6 arg7 harg7 arg8 harg8 arg9 harg9 arg10 harg10 arg11 harg11 arg12 harg12 x2 x3 x4 f10 ck cv = runC c i arg2 harg2 arg3 harg3 arg4 harg4 arg5 harg5 arg6 harg6 arg7 harg7 arg8 harg8 arg9 harg9 arg10 harg10 arg11 harg11 arg12 harg12 x2 x3 x4 f10 ck cv := by
  unfold runD
  rw [show Scf.trips (k0_t4_loop i).lb (k0_t4_loop i).ub (k0_t4_loop i).st = 0 from trips4 i]
  rfl

/-- Outside the tiles visited every weight is `0`. -/
theorem rnum_out (j : Fin 2048) (h : ¬ j.val < (k0_t3_loop i).trips * 1024) : rnum i x2 x3 ck r j = 0 := by
  unfold rnum snum
  rw [if_neg]
  intro hj
  exact h (trips13 i ▸ in_tiles i r j hj.2)

theorem runD_num (d : Fin 128) : (runD c i arg2 harg2 arg3 harg3 arg4 harg4 arg5 harg5 arg6 harg6 arg7 harg7 arg8 harg8 arg9 harg9 arg10 harg10 arg11 harg11 arg12 harg12 x2 x3 x4 f10 ck cv).1 (ix2 r d) = ∑ j : Fin 2048, rnum i x2 x3 ck r j * x4 (ix2 j d) := by
  rw [runD_eq]
  refine ((pass2 c i arg2 harg2 arg3 harg3 arg4 harg4 arg5 harg5 arg6 harg6 arg7 harg7 arg8 harg8 arg9 harg9 arg10 harg10 arg11 harg11 arg12 harg12 x2 x3 x4 f10 ck cv r _ le_rfl).1 d).trans (Finset.sum_congr rfl fun j _ => ?_)
  by_cases h : j.val < (k0_t3_loop i).trips * 1024
  · exact if_pos h
  · rw [rnum_out i x2 x3 ck r j h, zero_mul, ite_self]

theorem runD_den : (runD c i arg2 harg2 arg3 harg3 arg4 harg4 arg5 harg5 arg6 harg6 arg7 harg7 arg8 harg8 arg9 harg9 arg10 harg10 arg11 harg11 arg12 harg12 x2 x3 x4 f10 ck cv).2 (ix2 r 0) = ∑ j : Fin 2048, rnum i x2 x3 ck r j := by
  rw [runD_eq]
  refine ((pass2 c i arg2 harg2 arg3 harg3 arg4 harg4 arg5 harg5 arg6 harg6 arg7 harg7 arg8 harg8 arg9 harg9 arg10 harg10 arg11 harg11 arg12 harg12 x2 x3 x4 f10 ck cv r _ le_rfl).2).trans (Finset.sum_congr rfl fun j _ => ?_)
  by_cases h : j.val < (k0_t3_loop i).trips * 1024
  · exact if_pos h
  · rw [rnum_out i x2 x3 ck r j h, ite_self]

end Point

end Cert.KernelIdeal.Hand

end
-- ==== Proof.KerWin.lean ====
module

public import proofs.«01_k».proof.Proof.KerPass

@[expose] public section

/-! # The window: the band of 512 keys that holds it -/

set_option maxRecDepth 16384

noncomputable section

namespace Cert.KernelIdeal.Hand

open Cert.KernelIdeal Cert.KernelIdeal.Gen Cert.Nsa
open Idealize.ShloMosaic Idealize.ShloMosaic.TcCoe Idealize.ShloMosaic.ValueIdx Idealize.ShloMosaic.WordCmp

/-- The band's first key. -/
abbrev w0 (i : grid0.Coords) : ℕ := ((i 1).val - 1) * 256

theorem w0_le (i : grid0.Coords) : w0 i + 512 ≤ 2048 := by
  have := row_lt i
  unfold w0; omega

/-- Key `c` of the band. -/
abbrev band (i : grid0.Coords) (c : Fin 512) : Fin 2048 := ⟨w0 i + c.val, by have := w0_le i; omega⟩

theorem w0_word (i : grid0.Coords) : Scalar.muli (Scalar.maxsi (Scalar.subi (w1 i) 1#32) 0#32) 256#32 = BitVec.ofNat 32 (w0 i) := by
  have h : ∀ a : Fin 8, Scalar.muli (Scalar.maxsi (Scalar.subi (BitVec.ofNat 32 a.val) 1#32) 0#32) 256#32 = BitVec.ofNat 32 ((a.val - 1) * 256) := by
    decide +kernel
  exact h (i 1)

/-- Every key of the window is in the band. -/
theorem in_band (i : grid0.Coords) (r : Fin 256) (j : Fin 2048) (h : winMask (pos i r) j) : w0 i ≤ j.val ∧ j.val < w0 i + 512 := by
  have := r.isLt
  obtain ⟨h1, h2⟩ := h
  unfold w0 pos at *
  omega

theorem pay38_apply (i : grid0.Coords) (r : Fin 256) (c : Fin 512) :
    k0_pay38 (w1 i) (k0_pay2 i) (ix2 r c) = BitVec.ofBool (decide (winMask (pos i r) (band i c))) := by
  have hc := c.isLt; have hp := pos_lt i r; have hw := w0_le i
  have e : k0_pay38 (w1 i) (k0_pay2 i) (ix2 r c)
      = IntOp.andi
        (IntOp.cmpi .sle (IntOp.addi (Scalar.muli (Scalar.maxsi (Scalar.subi (w1 i) 1#32) 0#32) 256#32) (iota .tc S256x512 32 [1] iota_S256x512_d1_w32 (ix2 r c)))
          (broadcastTo S256x512 (k0_pay2 i) broadcasts_S256x1_S256x512 (ix2 r c)))
        (IntOp.cmpi .sle (IntOp.subi (broadcastTo S256x512 (k0_pay2 i) broadcasts_S256x1_S256x512 (ix2 r c))
          (IntOp.addi (Scalar.muli (Scalar.maxsi (Scalar.subi (w1 i) 1#32) 0#32) 256#32) (iota .tc S256x512 32 [1] iota_S256x512_d1_w32 (ix2 r c)))) 256#32) := rfl
  rw [e, spread_apply _ _ (by norm_num), pay2_apply, iota1_apply, w0_word,
    show IntOp.addi (BitVec.ofNat 32 (w0 i)) (BitVec.ofNat 32 c.val) = BitVec.ofNat 32 (w0 i + c.val) from (BitVec.ofNat_add ..).symm,
    cmpi_sle_ofNat (by omega) (by omega)]
  by_cases h : w0 i + c.val ≤ pos i r
  · have hs : IntOp.subi (BitVec.ofNat 32 (pos i r)) (BitVec.ofNat 32 (w0 i + c.val)) = BitVec.ofNat 32 (pos i r - (w0 i + c.val)) := by
      show BitVec.ofNat 32 (pos i r) - BitVec.ofNat 32 (w0 i + c.val) = _
      have ha : BitVec.ofNat 32 (pos i r) = BitVec.ofNat 32 (pos i r - (w0 i + c.val)) + BitVec.ofNat 32 (w0 i + c.val) := by
        rw [← BitVec.ofNat_add, Nat.sub_add_cancel h]
      rw [ha, BitVec.add_sub_cancel]
    rw [hs, show (256#32 : BitVec 32) = BitVec.ofNat 32 256 from rfl, cmpi_sle_ofNat (by omega) (by omega), andi_ofBool, ← Bool.decide_and]
  · rw [decide_eq_false h, decide_eq_false (fun h' : winMask (pos i r) (band i c) => h h'.1)]
    generalize IntOp.cmpi .sle _ _ = z
    show (0#1) &&& z = 0#1
    exact BitVec.zero_and

/-- The greatest of the band is the greatest of the window. -/
theorem smax_band (i : grid0.Coords) (r : Fin 256) (f : Fin 2048 → EReal) :
    smax (fun c : Fin 512 => winMask (pos i r) (band i c)) (fun c => f (band i c)) = smax (winMask (pos i r)) f := by
  apply le_antisymm
  · exact Finset.sup_le fun c _ => Finset.le_sup (f := fun j => if winMask (pos i r) j then f j else ⊥) (Finset.mem_univ (band i c))
  · refine Finset.sup_le fun j _ => ?_
    by_cases h : winMask (pos i r) j
    · have hb := in_band i r j h
      have hj : band i ⟨j.val - w0 i, by omega⟩ = j := Fin.ext (by show w0 i + (j.val - w0 i) = j.val; omega)
      have := Finset.le_sup (f := fun c : Fin 512 => if winMask (pos i r) (band i c) then f (band i c) else ⊥) (Finset.mem_univ ⟨j.val - w0 i, by omega⟩)
      rw [hj] at this
      exact this
    · rw [if_neg h]; exact bot_le

theorem snum_band (i : grid0.Coords) (r : Fin 256) (f : Fin 2048 → EReal) (c : Fin 512) :
    snum (fun c : Fin 512 => winMask (pos i r) (band i c)) (fun c => f (band i c)) c = snum (winMask (pos i r)) f (band i c) := by
  unfold snum
  rw [smax_band]

/-- A sum over the band of what is `0` outside the window. -/
theorem sum_band (i : grid0.Coords) (r : Fin 256) (g : Fin 2048 → EReal) (hg : ∀ j, ¬ winMask (pos i r) j → g j = 0) :
    ∑ c : Fin 512, g (band i c) = ∑ j, g j := by
  refine (sum_part g (w0 i) 512 (w0_le i)).symm.trans (Finset.sum_congr rfl fun j _ => ?_)
  by_cases h : w0 i ≤ j.val ∧ j.val < w0 i + 512
  · exact if_pos h
  · rw [if_neg h, hg j fun hw => h (in_band i r j hw)]

theorem snum_out (i : grid0.Coords) (r : Fin 256) (f : Fin 2048 → EReal) (j : Fin 2048) (h : ¬ winMask (pos i r) j) : snum (winMask (pos i r)) f j = 0 :=
  if_neg h

/-- The weights over the band: `e` after masking. -/
theorem win_num (i : grid0.Coords) (r : Fin 256) (y : Vec Ideal S256x512 .f32) (f : Fin 2048 → EReal) (hy : ∀ c, y (ix2 r c) = f (band i c)) (c : Fin 512) :
    select (k0_pay38 (w1 i) (k0_pay2 i)) (k0_pay39 (w1 i) (k0_pay2 i) y) (k0_pay40 (F := Ideal)) (ix2 r c) = snum (winMask (pos i r)) f (band i c) := by
  rw [← snum_band]
  refine snum_row (k0_pay38 (w1 i) (k0_pay2 i)) y r _ _ (fun c _ => hy c) (pay38_apply i r) _ ?_ broadcasts_S256x1_S256x512 (by norm_num) c
  exact smax_col (k0_pay38 (w1 i) (k0_pay2 i)) y r _ _ (fun c _ => hy c) (pay38_apply i r) reduces_S256x512_S256 shapeCasts_S256_S256x1 (.inl rfl) rfl

end Cert.KernelIdeal.Hand

end
-- ==== Proof.KerOut.lean ====
module

public import proofs.«01_k».proof.Proof.KerSum
public import proofs.«01_k».proof.Proof.KerWin

@[expose] public section

/-! # What one grid point computes -/

set_option maxRecDepth 16384

noncomputable section

namespace Cert.KernelIdeal.Hand

open Cert.KernelIdeal Cert.KernelIdeal.Gen Cert.Nsa
open Idealize.ShloMosaic Idealize.ShloMosaic.TcCoe Idealize.ShloMosaic.ValueIdx Idealize.ShloMosaic.WordCmp

/-- The attention under a mask does not depend on how the mask is decided. -/
theorem attend_eq (q : Fin 128 → EReal) (K V : Fin 2048 → Fin 128 → EReal) (P : Fin 2048 → Prop) [DecidablePred P] (d : Fin 128) :
    attend q K V P d = Ideal.div (∑ j, snum P (fun j => score q (K j)) j * V j d) (sden P fun j => score q (K j)) := by
  unfold attend
  congr!

/-- The gates of the row, from the kernel's padded gate arrays. -/
abbrev gateK (x2 : Vec Ideal S256x128 .f32) (x7 : Vec Ideal S128x128 .f32) (x8 : Vec Ideal S1x128 .f32) (r : Fin 256) (g : Fin 3) : EReal :=
  gate (qrow x2 r) (fun d c => x7 (ix2 d (⟨c.val, by omega⟩ : Fin 128))) (fun c => x8 (ix2 0 (⟨c.val, by omega⟩ : Fin 128))) g

/-- The gate array. -/
abbrev gates (v2 : FVec Ideal S256x128 .f32) (x7 : Vec Ideal S128x128 .f32) (x8 : Vec Ideal S1x128 .f32) : FVec Ideal S256x128 .f32 :=
  logistic (addf (matmul dot_S256x128_S128x128_S256x128_1_0_0_1_n_n none v2 (shapeCast S128x128 x7 shapeCasts_S128x128_S128x128 : FVec Ideal S128x128 .f32) (constant S256x128 .f32 0x00000000#32))
    (broadcastTo S256x128 (shapeCast S1x128 x8 shapeCasts_S1x128_S1x128 : FVec Ideal S1x128 .f32) broadcasts_S1x128_S256x128))

theorem gates_apply (x2 : Vec Ideal S256x128 .f32) (x7 : Vec Ideal S128x128 .f32) (x8 : Vec Ideal S1x128 .f32) (r : Fin 256) (g : Fin 3) :
    gates (k0_pay1 x2) x7 x8 (ix2 r (⟨g.val, by omega⟩ : Fin 128)) = gateK x2 x7 x8 r g := by
  refine congrArg Ideal.logistic ((addf_apply ..).trans ?_)
  refine congrArg₂ (· + ·) ((mm_plain (φ₁ := .f32) (φ₂ := .f32) dot_S256x128_S128x128_S256x128_1_0_0_1_n_n rfl _ _ r _).trans ?_) ?_
  · rw [pay1_eq, shapeCast_self]
  · rw [shapeCast_self]
    exact broadcastTo_apply (s := S1x128) (t := S256x128) _ _ _ (ix2 0 (⟨g.val, by omega⟩ : Fin 128)) (fun a => by
      match a with
      | ⟨0, _⟩ => rfl
      | ⟨1, _⟩ => rfl)

/-- A gate's column spread over the row. -/
theorem gate_col (v : FVec Ideal S256x128 .f32) (g : ℕ) (hg : g < 128) (h : S256x128.Slices ![0, g] S256x1) (hb : S256x1.Broadcasts S256x128) (r : Fin 256) (d : Fin 128) :
    broadcastTo S256x128 (extractStridedSlice S256x1 ![0, g] v h) hb (ix2 r d) = v (ix2 r (⟨g, hg⟩ : Fin 128)) := by
  refine (spread_apply _ hb (by norm_num) r d).trans ?_
  exact extractStridedSlice_apply _ _ _ _ _ (fun a => by
    match a with
    | ⟨0, _⟩ => exact (Nat.zero_add _).symm
    | ⟨1, _⟩ => rfl)

/-- The last payload, in terms of its parts at the row. -/
theorem pay49_apply (i : grid0.Coords) (x2 : Vec Ideal S256x128 .f32) (x7 : Vec Ideal S128x128 .f32) (x8 : Vec Ideal S1x128 .f32) (r : Fin 256) (d : Fin 128)
    (v37 : FVec Ideal S256x128 .f32) (v304 : FVec Ideal S256x512 .f32) (v310 : Vec Ideal S512x128 .f32) (a : FVec Ideal S256x128 .f32) (b : FVec Ideal S256x1 .f32)
    (f : Fin 2048 → EReal) (V : Fin 2048 → Fin 128 → EReal)
    (hw : ∀ c, select (k0_pay38 (w1 i) (k0_pay2 i)) v304 (k0_pay40 (F := Ideal)) (ix2 r c) = snum (winMask (pos i r)) f (band i c))
    (hV : ∀ c, v310 (ix2 c d) = V (band i c) d) :
    k0_pay49 (k0_pay1 x2) v37 (k0_pay38 (w1 i) (k0_pay2 i)) v304 (k0_pay40 (F := Ideal)) v310 a b x7 x8 (ix2 r d)
      = v37 (ix2 r d) * gateK x2 x7 x8 r 0 + Ideal.div (a (ix2 r d)) (max (b (ix2 r 0)) eps) * gateK x2 x7 x8 r 1
        + Ideal.div (∑ j, snum (winMask (pos i r)) f j * V j d) (sden (winMask (pos i r)) f) * gateK x2 x7 x8 r 2 := by
  unfold k0_pay49
  refine (addf_apply ..).trans (congrArg₂ (· + ·) ((addf_apply ..).trans (congrArg₂ (· + ·) ?_ ?_)) ?_)
  · refine (mulf_apply ..).trans (congrArg (v37 (ix2 r d) * ·) ?_)
    exact (gate_col (gates (k0_pay1 x2) x7 x8) 0 (by norm_num) _ _ r d).trans (gates_apply x2 x7 x8 r 0)
  · refine (mulf_apply ..).trans (congrArg₂ (· * ·) ?_ ?_)
    · refine (divf_apply ..).trans (congrArg (Ideal.div (a (ix2 r d))) ?_)
      exact spread_apply _ _ (by norm_num) r d
    · exact (gate_col (gates (k0_pay1 x2) x7 x8) 1 (by norm_num) _ _ r d).trans (gates_apply x2 x7 x8 r 1)
  · refine (mulf_apply ..).trans (congrArg₂ (· * ·) ?_ ?_)
    · refine (divf_apply ..).trans (congrArg₂ Ideal.div ?_ ?_)
      · refine (mm_plain (φ₁ := .f32) (φ₂ := .f32) dot_S256x512_S512x128_S256x128_1_0_0_1_n_n rfl _ _ r d).trans ?_
        rw [shapeCast_self]
        refine Eq.trans (Finset.sum_congr rfl fun c _ => ?_) (sum_band i r (fun j => snum (winMask (pos i r)) f j * V j d) fun j hj => by
          rw [snum_out i r f j hj, zero_mul])
        rw [hw c, hV c]
      · refine (spread_apply _ _ (by norm_num) r d).trans ?_
        refine (maximumf_apply ..).trans (congrArg₂ max ?_ rfl)
        refine (col_apply _ _ r).trans ((rowSum _ _ (.inl rfl) rfl r).trans ?_)
        exact Eq.trans (Finset.sum_congr rfl fun c _ => hw c) (sum_band i r (snum (winMask (pos i r)) f) (snum_out i r f))
    · exact (gate_col (gates (k0_pay1 x2) x7 x8) 2 (by norm_num) _ _ r d).trans (gates_apply x2 x7 x8 r 2)

section Point

variable (c : Dev nD) (i : grid0.Coords)
    (arg2 : Memref sig .tc .vmem S256x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S128x2048 .bf16) (harg5 : arg5.IsWhole)
    (arg6 : Memref sig .tc .vmem S128x2048 .bf16) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S256x128 .f32) (harg9 : arg9.IsWhole)
    (arg10 : Memref sig .tc .vmem S256x2048 .f32) (harg10 : arg10.IsWhole)
    (arg11 : Memref sig .tc .vmem S128x128 .f32) (harg11 : arg11.IsWhole)
    (arg12 : Memref sig .tc .vmem S128x128 .f32) (harg12 : arg12.IsWhole)
    (x2 : Vec Ideal S256x128 .f32) (x3 x4 : Vec Ideal S2048x128 .f32) (x7 : Vec Ideal S128x128 .f32) (x8 : Vec Ideal S1x128 .f32)
    (f10 : BufTy.Contents (Elt Ideal) arg10.view.ty) (ck cv : Vec Ideal S128x128 .f32) (r : Fin 256)

/-- The output block holds the row's attention, whatever the score scratch held before. -/
theorem outV_apply (d : Fin 128) :
    outV c i arg2 harg2 arg3 harg3 arg4 harg4 arg5 harg5 arg6 harg6 arg7 harg7 arg8 harg8 arg9 harg9 arg10 harg10 arg11 harg11 arg12 harg12 x2 x3 x4 x7 x8 f10 ck cv (ix2 r d)
      = rowOut (qrow x2 r) (pos i r) (mrow (N := 2048) x3) (mrow (N := 2048) x4) (rows127 ck) (rows127 cv) (gateK x2 x7 x8 r) d := by
  unfold outV
  rw [pay49_apply i x2 x7 x8 r d _ _ _ _ _ (rscore x2 x3 r) (mrow (N := 2048) x4) (fun cc => ?_) (fun cc => ?_), pay6_cut, runD_num, runD_den]
  · unfold rowOut
    rw [attend_eq, attend_eq]
    rfl
  · unfold winE
    refine win_num i r _ (rscore x2 x3 r) (fun cc => ?_) cc
    refine (read_part arg10.view (scrV c i arg2 harg2 arg3 harg3 arg4 harg4 arg5 harg5 arg6 harg6 arg7 harg7 arg8 harg8 arg9 harg9 arg10 harg10 arg11 harg11 arg12 harg12 x2 x3 f10 ck) _ (off5_eq i) _ (ix2 r (band i cc)) (by exact (Nat.zero_add _).symm) (by exact rfl)).trans ?_
    refine scrV_apply c i arg2 harg2 arg3 harg3 arg4 harg4 arg5 harg5 arg6 harg6 arg7 harg7 arg8 harg8 arg9 harg9 arg10 harg10 arg11 harg11 arg12 harg12 x2 x3 f10 ck r _ ?_
    have h := row_lt i
    have := cc.isLt
    rw [trips1]
    show ((i 1).val - 1) * 256 + cc.val < _
    split <;> omega
  · refine (read_part arg4.view (harg4.unread x4) _ (off6_eq i) _ (ix2 (band i cc) d) (by exact rfl) (by exact (Nat.zero_add _).symm)).trans ?_
    rw [harg4.read_unread]

end Point

end Cert.KernelIdeal.Hand

end
-- ==== Proof.KerBlk.lean ====
module

public import proofs.«01_k».proof.Proof.HostRead
public import proofs.«01_k».proof.Proof.KerOut

@[expose] public section

/-! # The blocks the kernel is handed

Point `t` of the launch works on head `t / 8` and query positions `256 (t % 8) …`: it is handed that head's queries of those positions, all of
that head's keys and values, and the pooling matrices and gate arrays whole. -/

set_option maxRecDepth 16384

noncomputable section

namespace Cert.KernelIdeal.Hand

open Cert.KernelIdeal Cert.KernelIdeal.Gen Cert.Nsa
open Idealize.ShloMosaic Idealize.ShloMosaic.TcCoe Idealize.ShloMosaic.ValueIdx

/-- The head a point works on. -/
def headOf (t : Fin cfg0.N) : Fin 4 := ⟨t.val / 8, by have h : t.val < 32 := t.isLt; omega⟩

/-- The position of a block row. -/
def rowOf (t : Fin cfg0.N) (r : Fin 256) : Fin 2048 := ⟨t.val % 8 * 256 + r.val, by omega⟩

/-- A head's rows as a matrix. -/
def hBlk (x : FVec Ideal S1x2048x4x128 .f32) (h : Fin 4) : Vec Ideal S2048x128 .f32 := fun j => headRows x h (j 0) (j 1)

theorem coord_row : ∀ t : Fin grid0.N, (grid0.coords t 1).val = t.val % 8 := by decide +kernel
theorem index0 : ∀ t : Fin grid0.N, win0_0.index t 0 = t.val % 8 ∧ win0_0.index t 1 = t.val / 8 := by decide +kernel
theorem index1 : ∀ t : Fin grid0.N, win0_1.index t 0 = 0 ∧ win0_1.index t 1 = t.val / 8 := by decide +kernel
theorem index2 : ∀ t : Fin grid0.N, win0_2.index t 0 = 0 ∧ win0_2.index t 1 = t.val / 8 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = t.val % 8 ∧ win0_7.index t 1 = t.val / 8 := by decide +kernel

section Blocks

variable (m : (ℓ : Loc nD τ sig) → Buf (Elt Ideal) ℓ) (c : Dev nD) (t : Fin cfg0.N)

/-- The queries. -/
theorem iblk0_apply (r : Fin 256) (d : Fin 128) :
    (iblk m c 0 t : Vec Ideal S256x128 .f32) (ix2 r d) = headRows (m ((c : Thread nD τ).loc main_arg0)) (headOf t) (rowOf t r) d := by
  unfold iblk
  refine (View.read_apply ..).trans ?_
  have e : ∀ J : S2048x512.Idx, (J 0).val = t.val % 8 * 256 + r.val → (J 1).val = t.val / 8 * 128 + d.val →
      V m c main_call0_v50 J = headRows (m ((c : Thread nD τ).loc main_arg0)) (headOf t) (rowOf t r) d := fun J h0 h1 => by
    rw [V_v50, eq_ix2 J]
    refine (flat_apply _ (J 0) (headOf t) d (J 1) h1).trans ?_
    rw [show (J 0 : Fin 2048) = rowOf t r from Fin.ext h0]
  refine e _ ((win0_0.rect_emb_val t (ix2 r d) 0).trans ?_) ((win0_0.rect_emb_val t (ix2 r d) 1).trans ?_)
  · rw [(index0 t).1]; rfl
  · rw [(index0 t).2]; rfl

/-- The keys and the values of the head. -/
theorem iblk1_eq : iblk m c 1 t = hBlk (m ((c : Thread nD τ).loc main_arg1)) (headOf t) := by
  funext j
  unfold iblk
  refine (View.read_apply ..).trans ?_
  have e : ∀ J : S2048x512.Idx, (J 0).val = (j 0).val → (J 1).val = t.val / 8 * 128 + (j 1).val →
      V m c main_call0_v51 J = hBlk (m ((c : Thread nD τ).loc main_arg1)) (headOf t) j := fun J h0 h1 => by
    rw [V_v51, eq_ix2 J]
    refine (flat_apply _ (J 0) (headOf t) (j 1) (J 1) h1).trans ?_
    rw [show (J 0 : Fin 2048) = j 0 from Fin.ext h0]
    rfl
  refine e _ ((win0_1.rect_emb_val t j 0).trans ?_) ((win0_1.rect_emb_val t j 1).trans ?_)
  · rw [(index1 t).1]; exact (by omega : ∀ k, 0 * 2048 + k = k) _
  · rw [(index1 t).2]; rfl

theorem iblk2_eq : iblk m c 2 t = hBlk (m ((c : Thread nD τ).loc main_arg2)) (headOf t) := by
  funext j
  unfold iblk
  refine (View.read_apply ..).trans ?_
  have e : ∀ J : S2048x512.Idx, (J 0).val = (j 0).val → (J 1).val = t.val / 8 * 128 + (j 1).val →
      V m c main_call0_v52 J = hBlk (m ((c : Thread nD τ).loc main_arg2)) (headOf t) j := fun J h0 h1 => by
    rw [V_v52, eq_ix2 J]
    refine (flat_apply _ (J 0) (headOf t) (j 1) (J 1) h1).trans ?_
    rw [show (J 0 : Fin 2048) = j 0 from Fin.ext h0]
    rfl
  refine e _ ((win0_2.rect_emb_val t j 0).trans ?_) ((win0_2.rect_emb_val t j 1).trans ?_)
  · rw [(index2 t).1]; exact (by omega : ∀ k, 0 * 2048 + k = k) _
  · rw [(index2 t).2]; rfl

/-- The whole arrays. -/
theorem iblk3_eq : iblk m c 3 t = poolM (m ((c : Thread nD τ).loc main_arg3)) := by
  rw [← V_v28 m c]
  funext j
  unfold iblk
  refine (View.read_apply ..).trans (congrArg (V m c main_call0_v28) (funext fun a => Fin.ext ?_))
  match a with
  | ⟨0, _⟩ => exact win0_3.rect_emb_val_of_index_zero t 0 (index3 t).1 j
  | ⟨1, _⟩ => exact win0_3.rect_emb_val_of_index_zero t 1 (index3 t).2 j

theorem iblk4_eq : iblk m c 4 t = poolM (m ((c : Thread nD τ).loc main_arg4)) := by
  rw [← V_v41 m c]
  funext j
  unfold iblk
  refine (View.read_apply ..).trans (congrArg (V m c main_call0_v41) (funext fun a => Fin.ext ?_))
  match a with
  | ⟨0, _⟩ => exact win0_4.rect_emb_val_of_index_zero t 0 (index4 t).1 j
  | ⟨1, _⟩ => exact win0_4.rect_emb_val_of_index_zero t 1 (index4 t).2 j

theorem iblk5_eq : iblk m c 5 t = padW (m ((c : Thread nD τ).loc main_arg5)) := by
  rw [← V_v44 m c]
  funext j
  unfold iblk
  refine (View.read_apply ..).trans (congrArg (V m c main_call0_v44) (funext fun a => Fin.ext ?_))
  match a with
  | ⟨0, _⟩ => exact win0_5.rect_emb_val_of_index_zero t 0 (index5 t).1 j
  | ⟨1, _⟩ => exact win0_5.rect_emb_val_of_index_zero t 1 (index5 t).2 j

theorem iblk6_eq : iblk m c 6 t = padB (m ((c : Thread nD τ).loc main_arg6)) := by
  rw [← V_v49 m c]
  funext j
  unfold iblk
  refine (View.read_apply ..).trans (congrArg (V m c main_call0_v49) (funext fun a => Fin.ext ?_))
  match a with
  | ⟨0, _⟩ => exact win0_6.rect_emb_val_of_index_zero t 0 (index6 t).1 j
  | ⟨1, _⟩ => exact win0_6.rect_emb_val_of_index_zero t 1 (index6 t).2 j

/-! ## The pooled keys and values of a head, and the result -/

/-- What the pooled-key and pooled-value scratch buffers hold while a head is worked on. -/
def ckH (h : Fin 4) : Vec Ideal S128x128 .f32 := k0_pay3 (hBlk (m ((c : Thread nD τ).loc main_arg1)) h) (poolM (m ((c : Thread nD τ).loc main_arg3)))
def cvH (h : Fin 4) : Vec Ideal S128x128 .f32 := k0_pay4 (hBlk (m ((c : Thread nD τ).loc main_arg2)) h) (poolM (m ((c : Thread nD τ).loc main_arg4)))

theorem rows_ckH (h : Fin 4) : rows127 (ckH m c h) = pool (entries (m ((c : Thread nD τ).loc main_arg3))) (headRows (m ((c : Thread nD τ).loc main_arg1)) h) :=
  rows_pay3 (hBlk (m ((c : Thread nD τ).loc main_arg1)) h) (m ((c : Thread nD τ).loc main_arg3))
theorem rows_cvH (h : Fin 4) : rows127 (cvH m c h) = pool (entries (m ((c : Thread nD τ).loc main_arg4))) (headRows (m ((c : Thread nD τ).loc main_arg2)) h) :=
  rows_pay4 (hBlk (m ((c : Thread nD τ).loc main_arg2)) h) (m ((c : Thread nD τ).loc main_arg4))

/-- The result at a position, a head and a feature, from the launched arguments. -/
def nsaAt (t : Fin 2048) (h : Fin 4) (d : Fin 128) : EReal :=
  nsa (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) t h d

/-- The block a point leaves. -/
def outH : Vec Ideal S256x128 .f32 := fun j => nsaAt m c (rowOf t (j 0)) (headOf t) (j 1)

/-- The pieces of a point's result, in the launched arguments. -/
theorem row_eq (r : Fin 256) (d : Fin 128) :
    rowOut (qrow (iblk m c 0 t) r) (pos (grid0.coords t) r) (mrow (N := 2048) (iblk m c 1 t : Vec Ideal S2048x128 .f32)) (mrow (N := 2048) (iblk m c 2 t : Vec Ideal S2048x128 .f32))
        (rows127 (ckH m c (headOf t))) (rows127 (cvH m c (headOf t))) (gateK (iblk m c 0 t) (iblk m c 5 t) (iblk m c 6 t) r) d
      = nsaAt m c (rowOf t r) (headOf t) d := by
  have hq : qrow (iblk m c 0 t) r = headRows (m ((c : Thread nD τ).loc main_arg0)) (headOf t) (rowOf t r) := funext fun d => iblk0_apply m c t r d
  have hp : pos (grid0.coords t) r = (rowOf t r).val := by show (grid0.coords t 1).val * 256 + r.val = t.val % 8 * 256 + r.val; rw [coord_row]
  have hg : gateK (iblk m c 0 t) (iblk m c 5 t) (iblk m c 6 t) r
      = gate (headRows (m ((c : Thread nD τ).loc main_arg0)) (headOf t) (rowOf t r)) (fun d c' => m ((c : Thread nD τ).loc main_arg5) (ix2 d c')) (fun c' => m ((c : Thread nD τ).loc main_arg6) (ix1 c')) := by
    funext g
    unfold gateK
    rw [hq, iblk5_eq, iblk6_eq]
    simp only [padW_apply, padB_apply]
  rw [hq, hp, hg, rows_ckH, rows_cvH, iblk1_eq, iblk2_eq]
  rfl

end Blocks

end Cert.KernelIdeal.Hand

end
-- ==== Proof.IdealValue.lean ====
module

public import proofs.«01_k».proof.Proof.IdealFrame
public import proofs.«01_k».proof.Proof.KerBlk

@[expose] public section

/-! # Every point leaves its block of the result

Between two points of one head the scratch buffers hold the head's pooled keys and values: the first point of a head computes them, the others
find them. With them a point's body leaves the rows of the result it is responsible for. -/

set_option maxRecDepth 16384

noncomputable section

namespace Cert.KernelIdeal.Hand

open Cert.KernelIdeal Cert.KernelIdeal.Gen Cert.Nsa
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

section Value

variable (m : (ℓ : Loc nD τ sig) → Buf (Elt Ideal) ℓ) (ρ : Dev nD → PrngReg)

/-- The head under way before point `n`. -/
def headN (n : ℕ) : Fin 4 := ⟨n / 8 % 4, Nat.mod_lt _ (by norm_num)⟩

theorem headN_of (t : Fin cfg0.N) : headN t.val = headOf t := by
  have h : t.val < 32 := t.isLt
  exact Fin.ext (by show t.val / 8 % 4 = t.val / 8; omega)

/-- Contents that are `X`, if the point is not the first of a head. -/
abbrev Kept (n : ℕ) (X : Vec Ideal S128x128 .f32) : Type := {d : Vec Ideal S128x128 .f32 // n % 8 ≠ 0 → d = X}

/-- What is kept between points: the score scratch at any contents, the pooled keys and values of the head under way, and the random-number register. -/
def keep (c : Dev nD) (n : ℕ) : sProp 𝕄 :=
  iprop(((∃ d, owns (c : Thread nD τ) (Memref.whole cc0_scratch0) fullShare d)
      ∗ (∃ d : Kept n (ckH m c (headN n)), owns (c : Thread nD τ) (Memref.whole cc0_scratch1) fullShare d.val)
      ∗ (∃ d : Kept n (cvH m c (headN n)), owns (c : Thread nD τ) (Memref.whole cc0_scratch2) fullShare d.val)) ∗ ∃ r, prngReg c r)

/-- The proof data: the arrays as the region finds them, the inputs' blocks left in place, the output's block of the result. -/
def datV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outH m c t
  Φ t := keep m c t.val
  q _ := fullShare
  owed _ := 0

theorem A_eqV (c : Dev nD) (w : Fin cfg0.W) : (datV m 0 c).A w = V m c (Pipeline.arrRef spec0 w) := by dsimp only [datV]

/-- What the body is called with at a point, and what it returns. -/
def preV (c : Dev nD) (t : Fin cfg0.N) : sProp 𝕄 :=
  iprop((datV m 0 c).Φ t.castSucc ∗ (datV m 0 c).owesAt () t.castSucc
    ∗ (∃ d, owns (c : Thread nD τ) (st0_0 t) fullShare ((datV m 0 c).before 0 t d))
    ∗ (∃ d, owns (c : Thread nD τ) (st0_1 t) fullShare ((datV m 0 c).before 1 t d))
    ∗ (∃ d, owns (c : Thread nD τ) (st0_2 t) fullShare ((datV m 0 c).before 2 t d))
    ∗ (∃ d, owns (c : Thread nD τ) (st0_3 t) fullShare ((datV m 0 c).before 3 t d))
    ∗ (∃ d, owns (c : Thread nD τ) (st0_4 t) fullShare ((datV m 0 c).before 4 t d))
    ∗ (∃ d, owns (c : Thread nD τ) (st0_5 t) fullShare ((datV m 0 c).before 5 t d))
    ∗ (∃ d, owns (c : Thread nD τ) (st0_6 t) fullShare ((datV m 0 c).before 6 t d))
    ∗ (∃ d, owns (c : Thread nD τ) (st0_7 t) fullShare ((datV m 0 c).before 7 t d)))
def postV (c : Dev nD) (t : Fin cfg0.N) : sProp 𝕄 :=
  iprop((datV m 0 c).Φ t.succ ∗ (datV m 0 c).owesAt () t.succ
    ∗ owns (c : Thread nD τ) (st0_0 t) fullShare ((datV m 0 c).after 0 t)
    ∗ owns (c : Thread nD τ) (st0_1 t) fullShare ((datV m 0 c).after 1 t)
    ∗ owns (c : Thread nD τ) (st0_2 t) fullShare ((datV m 0 c).after 2 t)
    ∗ owns (c : Thread nD τ) (st0_3 t) fullShare ((datV m 0 c).after 3 t)
    ∗ owns (c : Thread nD τ) (st0_4 t) fullShare ((datV m 0 c).after 4 t)
    ∗ owns (c : Thread nD τ) (st0_5 t) fullShare ((datV m 0 c).after 5 t)
    ∗ owns (c : Thread nD τ) (st0_6 t) fullShare ((datV m 0 c).after 6 t)
    ∗ owns (c : Thread nD τ) (st0_7 t) fullShare ((datV m 0 c).after 7 t))

/-- Every input's staging buffer holds its block at every point. -/
theorem before_0V (c : Dev nD) (t : Fin cfg0.N) (d) : (datV m 0 c).before 0 t d = iblk m c 0 t :=
  before0_0_of m (datV m 0 c) (A_eqV m c 0) (fun _ => by dsimp only [datV]) t d
theorem before_1V (c : Dev nD) (t : Fin cfg0.N) (d) : (datV m 0 c).before 1 t d = iblk m c 1 t :=
  before0_1_of m (datV m 0 c) (A_eqV m c 1) (fun _ => by dsimp only [datV]) t d
theorem before_2V (c : Dev nD) (t : Fin cfg0.N) (d) : (datV m 0 c).before 2 t d = iblk m c 2 t :=
  before0_2_of m (datV m 0 c) (A_eqV m c 2) (fun _ => by dsimp only [datV]) t d
theorem before_3V (c : Dev nD) (t : Fin cfg0.N) (d) : (datV m 0 c).before 3 t d = iblk m c 3 t :=
  before0_3_of m (datV m 0 c) (A_eqV m c 3) (fun _ => by dsimp only [datV]) t d
theorem before_4V (c : Dev nD) (t : Fin cfg0.N) (d) : (datV m 0 c).before 4 t d = iblk m c 4 t :=
  before0_4_of m (datV m 0 c) (A_eqV m c 4) (fun _ => by dsimp only [datV]) t d
theorem before_5V (c : Dev nD) (t : Fin cfg0.N) (d) : (datV m 0 c).before 5 t d = iblk m c 5 t :=
  before0_5_of m (datV m 0 c) (A_eqV m c 5) (fun _ => by dsimp only [datV]) t d
theorem before_6V (c : Dev nD) (t : Fin cfg0.N) (d) : (datV m 0 c).before 6 t d = iblk m c 6 t :=
  before0_6_of m (datV m 0 c) (A_eqV m c 6) (fun _ => by dsimp only [datV]) t d

/-- The pooled keys in the scratch buffer after the head's first point, or found there. -/
theorem ck_eq (c : Dev nD) (t : Fin cfg0.N) (d : Kept t.val (ckH m c (headN t.val))) :
    ckV (grid0.coords t) (iblk m c 1 t) (iblk m c 3 t) d.val = ckH m c (headOf t) := by
  unfold ckV
  rw [coord_row]
  split
  · rw [iblk1_eq, iblk3_eq]; rfl
  · next h => rw [d.2 h, headN_of]

theorem cv_eq (c : Dev nD) (t : Fin cfg0.N) (d : Kept t.val (cvH m c (headN t.val))) :
    cvV (grid0.coords t) (iblk m c 2 t) (iblk m c 4 t) d.val = cvH m c (headOf t) := by
  unfold cvV
  rw [coord_row]
  split
  · rw [iblk2_eq, iblk4_eq]; rfl
  · next h => rw [d.2 h, headN_of]

/-- At the next point of the same head they are that head's. -/
theorem head_next (t : Fin cfg0.N) (h : (t.val + 1) % 8 ≠ 0) : headOf t = headN (t.val + 1) := by
  have ht : t.val < 32 := t.isLt
  exact Fin.ext (by show t.val / 8 = (t.val + 1) / 8 % 4; omega)

/-- The block a point leaves, whatever the score scratch held. -/
theorem out_eq (c : Dev nD) (t : Fin cfg0.N)
    (arg2 : Memref sig .tc .vmem S256x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S128x2048 .bf16) (harg5 : arg5.IsWhole)
    (arg6 : Memref sig .tc .vmem S128x2048 .bf16) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S256x128 .f32) (harg9 : arg9.IsWhole)
    (arg10 : Memref sig .tc .vmem S256x2048 .f32) (harg10 : arg10.IsWhole)
    (arg11 : Memref sig .tc .vmem S128x128 .f32) (harg11 : arg11.IsWhole)
    (arg12 : Memref sig .tc .vmem S128x128 .f32) (harg12 : arg12.IsWhole)
    (f10 : BufTy.Contents (Elt Ideal) arg10.view.ty) :
    outV c (grid0.coords t) arg2 harg2 arg3 harg3 arg4 harg4 arg5 harg5 arg6 harg6 arg7 harg7 arg8 harg8 arg9 harg9 arg10 harg10 arg11 harg11 arg12 harg12 (iblk m c 0 t) (iblk m c 1 t) (iblk m c 2 t) (iblk m c 5 t) (iblk m c 6 t) f10 (ckH m c (headOf t)) (cvH m c (headOf t))
      = outH m c t := by
  funext j
  rw [eq_ix2 j]
  refine (outV_apply c (grid0.coords t) arg2 harg2 arg3 harg3 arg4 harg4 arg5 harg5 arg6 harg6 arg7 harg7 arg8 harg8 arg9 harg9 arg10 harg10 arg11 harg11 arg12 harg12 _ _ _ _ _ f10 _ _ (j 0) (j 1)).trans ?_
  exact row_eq m c t (j 0) (j 1)

/-- The body at a point. -/
theorem sound_bodyV (c : Dev nD) (t : Fin cfg0.N) :
    preV m c t ⊢ wp frame (wpE (defs₀ (F := Ideal)) Variants.none c none) Set.univ (bodyAt0 t) (fun _ => postV m c t) := by
  unfold preV postV bodyAt0
  simp only [before_0V, before_1V, before_2V, before_3V, before_4V, before_5V, before_6V]
  rw [show (datV m 0 c).owesAt () t.succ = (datV m 0 c).owesAt () t.castSucc from rfl,
    show (datV m 0 c).Φ t.succ = keep m c (t.val + 1) from rfl,
    show (datV m 0 c).Φ t.castSucc = keep m c t.val from by dsimp only [datV]; exact Pipeline.Dat.Φ_castSucc (fun n _ => keep m c n) t]
  unfold keep
  dsimp only [datV]
  iintro ⟨⟨⟨HA, ⟨%d11, HB⟩, ⟨%d12, HC⟩⟩, Hg⟩, HO, ⟨%_, H0⟩, ⟨%_, H1⟩, ⟨%_, H2⟩, ⟨%_, H3⟩, ⟨%_, H4⟩, ⟨%_, H5⟩, ⟨%_, H6⟩, ⟨%_, H7⟩⟩
  iapply (kernelRun c (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) d11.val d12.val _)
  rw [ck_eq, cv_eq]
  simp only [out_eq]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HA]; · iexact HA
  isplitl [HB]; · iexact HB
  isplitl [HC]; · iexact HC
  iintro ⟨H0, H1, H2, H3, H4, H5, H6, ⟨%f10, H7⟩, HA, HB, HC⟩
  isplitl [HA HB HC Hg]
  · isplitl [HA HB HC]
    · isplitl [HA]; · iexact HA
      isplitl [HB]
      · iexists (⟨ckH m c (headOf t), fun h => by rw [head_next t h]⟩ : Kept (t.val + 1) (ckH m c (headN (t.val + 1)))); iexact HB
      · iexists (⟨cvH m c (headOf t), fun h => by rw [head_next t h]⟩ : Kept (t.val + 1) (cvH m c (headN (t.val + 1)))); iexact HC
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch's obligation on the body. -/
theorem body_obligationV (c : Dev nD) :
    BodyObligation (datV m 0 c) (defs₀ (F := Ideal)) Variants.none () Set.univ := fun t => by
  rw [bigSep_W0, bigSep_W0, defs₀_row]
  exact triple_restated (sound_bodyV m c t) rfl .rfl fun _ => .rfl

/-- Before the first point nothing need be kept, and after the last nothing is needed. -/
theorem keep_in (c : Dev nD) : (Pipeline.ΦA spec0 c : sProp 𝕄) ⊢ (datV m 0 c).Φ 0 := by
  rw [PhiA0_eq, show (datV m 0 c).Φ 0 = keep m c 0 from rfl]
  unfold keep
  iintro ⟨⟨HA, ⟨%d11, HB⟩, ⟨%d12, HC⟩⟩, Hg⟩
  isplitl [HA HB HC]
  · isplitl [HA]; · iexact HA
    isplitl [HB]
    · iexists (⟨d11, fun h => absurd rfl h⟩ : Kept 0 (ckH m c (headN 0))); iexact HB
    · iexists (⟨d12, fun h => absurd rfl h⟩ : Kept 0 (cvH m c (headN 0))); iexact HC
  iexact Hg

theorem keep_out (c : Dev nD) : (datV m 0 c).Φ (Fin.last cfg0.N) ⊢ (Pipeline.ΦA spec0 c : sProp 𝕄) := by
  rw [PhiA0_eq]
  dsimp only [datV]
  unfold keep
  iintro ⟨⟨HA, ⟨%d11, HB⟩, ⟨%d12, HC⟩⟩, Hg⟩
  isplitl [HA HB HC]
  · isplitl [HA]; · iexact HA
    isplitl [HB]
    · iexists _; iexact HB
    · iexists _; iexact HC
  iexact Hg

set_option backward.isDefEq.respectTransparency.types false in
/-- From any memory with zero counters every run of @main ends with the output array at what its write-backs leave, and every other buffer
    at what the lines after the region leave. -/
theorem run_mainV :
    θ_run defs (onTc (τ := τ) (main (F := Ideal))) (s₀ m ρ) (Pipeline.FramePost cfgs (datV m) 0 (Pipeline.afterTail₀ cfgs (datV m) 0 (V0 m) [hostOps1])) :=
  Pipeline.θ_run_frame_around_track cfgs (datV m) (0 : Fin 1) launch0 defs₀ Variants.none m ρ main
    (hbody := fun c => (body_obligationV m c).loose) (hshare := fun c => (datV m 0 c).share_full fun _ => rfl)
    (howed := fun _ _ => rfl) (V₀ := V0 m) (opss := [hostOps1]) (hsub := sfx_sub) (hfresh := sfx_fresh) (hkeep := sfx_keeps)
    (hmain := hmain m Variants.none) (hA := A_eqV m) (hin := keep_in m) (hout := keep_out m)

end Value

end Cert.KernelIdeal.Hand

end
-- ==== Proof.IdealResult.lean ====
module

public import proofs.«01_k».proof.Proof.IdealValue

@[expose] public section

/-! # What the kernel returns

The points' blocks tile the output array, which the last line reshapes into the result. -/

set_option maxRecDepth 16384

noncomputable section

namespace Cert.KernelIdeal.Hand

open Cert.KernelIdeal Cert.KernelIdeal.Gen Cert.Nsa
open Idealize.ShloMosaic Idealize.ShloMosaic.TcCoe Idealize.ShloMosaic.ValueIdx Idealize.ShloMosaic.Tactic

section Result

variable (m : (ℓ : Loc nD τ sig) → Buf (Elt Ideal) ℓ) (ρ : Dev nD → PrngReg) (c : Dev nD)

/-- The output array. -/
def outArr : FVec Ideal S2048x512 .f32 := fun j =>
  nsaAt m c (j 0) (⟨(j 1).val / 128, by have h : (j 1).val < 512 := (j 1).isLt; omega⟩ : Fin 4) (⟨(j 1).val % 128, Nat.mod_lt _ (by norm_num)⟩ : Fin 128)

/-- The result. -/
def nsaRes : FVec Ideal S1x2048x4x128 .f32 := fun i => nsaAt m c (i 1) (i 2) (i 3)

/-- A point's block is its part of the array. -/
theorem flushed_eq (t : Fin cfg0.N) : outH m c t = ((cfg0.win 7).blk t).view.read (Elt Ideal) (outArr m c) := by
  funext j
  refine Eq.trans ?_ (View.read_apply ..).symm
  have hj : (j 1).val < 128 := (j 1).isLt
  have e : ∀ J : S2048x512.Idx, (J 0).val = t.val % 8 * 256 + (j 0).val → (J 1).val = t.val / 8 * 128 + (j 1).val → outH m c t j = outArr m c J := fun J h0 h1 => by
    unfold outH outArr
    congr 1
    · exact Fin.ext h0.symm
    · exact Fin.ext (by show t.val / 8 = (J 1).val / 128; omega)
    · exact Fin.ext (by show (j 1).val = (J 1).val % 128; omega)
  refine e _ ((win0_7.rect_emb_val t j 0).trans ?_) ((win0_7.rect_emb_val t j 1).trans ?_)
  · rw [(index7 t).1]; rfl
  · rw [(index7 t).2]; rfl

/-- Every index of the array is in some point's block. -/
theorem covered (i : S2048x512.Idx) : ∃ t : Fin cfg0.N, (cfg0.win 7).flush t = true ∧ i ∈ ((cfg0.win 7).blk t).view.set := by
  have h0 : (i 0).val < 2048 := (i 0).isLt
  have h1 : (i 1).val < 512 := (i 1).isLt
  have key : ∀ t : Fin cfg0.N, t.val = (i 1).val / 128 * 8 + (i 0).val / 256 → i ∈ ((cfg0.win 7).blk t).view.set := fun t ht => by
    refine (Finset.ext_iff.1 (View.set_slice_whole main_call0_v53 (win0_7.rect t)) i).2 (Rect.mem_set_unit.2 fun a => ?_)
    match a with
    | ⟨0, _⟩ =>
      show win0_7.index t 0 * 256 ≤ (i 0).val ∧ (i 0).val < win0_7.index t 0 * 256 + 256
      rw [(index7 t).1]
      omega
    | ⟨1, _⟩ =>
      show win0_7.index t 1 * 128 ≤ (i 1).val ∧ (i 1).val < win0_7.index t 1 * 128 + 128
      rw [(index7 t).2]
      omega
  exact ⟨⟨(i 1).val / 128 * 8 + (i 0).val / 256, by show _ < 32; omega⟩, flush0_7 _, key _ rfl⟩

/-- The output array at the end. -/
theorem arr_end : (datV m 0 c).arrAt 7 cfg0.N = outArr m c :=
  (datV m 0 c).arrAt_eq_of_cover 7 (outArr m c) (fun t _ => flushed_eq m c t) (covered (i := ·))

/-- The output array reshaped. -/
theorem reshape_out : shapeCast S1x2048x4x128 (outArr m c) shapeCasts_S2048x512_S1x2048x4x128 = nsaRes m c := by
  funext i
  have h2 : (i 2).val < 4 := (i 2).isLt
  have h3 : (i 3).val < 128 := (i 3).isLt
  refine (unflat_apply (outArr m c) i (⟨(i 2).val * 128 + (i 3).val, by omega⟩ : Fin 512) rfl).trans ?_
  unfold outArr nsaRes
  congr 1
  · exact Fin.ext (by show ((i 2).val * 128 + (i 3).val) / 128 = (i 2).val; omega)
  · exact Fin.ext (by show ((i 2).val * 128 + (i 3).val) % 128 = (i 3).val; omega)

theorem tail_v0 : Pipeline.afterTail₀ cfgs (datV m) 0 (V0 m) [hostOps1] c main_v0 = nsaRes m c := by
  rw [← reshape_out, ← arr_end]
  unfold Pipeline.afterTail₀
  after_reads_simp
  exact congrArg (fun x => shapeCast S1x2048x4x128 x shapeCasts_S2048x512_S1x2048x4x128)
    (Pipeline.withArrays_arr spec0 (by decide) c (V0 m c) (fun w => (datV m 0 c).arrAt w cfg0.N) 7)

/-- From any memory the kernel ends with the result in its buffer and its arguments as launched. -/
theorem kernel_value :
    θ_run defs (onTc (τ := τ) (main (F := Ideal))) (s₀ m ρ)
      (fun r => ∀ c : Dev nD,
        r.2.mem ((c.tc : Thread nD τ).loc main_v0) = nsaRes m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono (fun r h c =>
    have hr (b : Ref sig .tc) (hs : b.isScoped = false) (ha : ∀ w, (spec0 w).arr.view.ref ≠ b) {X : Buf (Elt Ideal) ((c : Thread nD τ).loc b)}
        (hV : Pipeline.afterTail₀ cfgs (datV m) 0 (V0 m) [hostOps1] c b = X) : r.2.mem ((c : Thread nD τ).loc b) = X :=
      ((h c).2 b (Pipeline.mem_restRefs_of b hs ha)).trans hV
    ⟨hr main_v0 (by decide) (by decide) (tail_v0 m c),
      hr main_arg0 (by decide) (by decide) (W_main_arg0 m (datV m) c), hr main_arg1 (by decide) (by decide) (W_main_arg1 m (datV m) c),
      hr main_arg2 (by decide) (by decide) (W_main_arg2 m (datV m) c), hr main_arg3 (by decide) (by decide) (W_main_arg3 m (datV m) c),
      hr main_arg4 (by decide) (by decide) (W_main_arg4 m (datV m) c), hr main_arg5 (by decide) (by decide) (W_main_arg5 m (datV m) c),
      hr main_arg6 (by decide) (by decide) (W_main_arg6 m (datV m) c)⟩) (run_mainV m ρ)

end Result

end Cert.KernelIdeal.Hand

end
-- ==== Proof.RefCmp.lean ====
module

public import proofs.«01_k».proof.Proof.Whole
public import proofs.«01_k».proof.Proof.Rows
public import proofs.«01_k».proof.Proof.Gen.ReferenceIdeal.Read

@[expose] public section

/-! # The reference's pooled branch

Its gathers read the 32 rows from row `16 n` on, so its pooled keys and values are `pool`; its first softmax is `cmpP`. -/

set_option maxRecDepth 16384

noncomputable section

namespace Cert.ReferenceIdeal.Hand

open Cert.ReferenceIdeal Cert.ReferenceIdeal.Gen Cert.ReferenceIdeal.Read Cert.Nsa
open Idealize.ShloMosaic Idealize.ShloMosaic.ValueIdx Idealize.ShloMosaic.WordCmp

/-! ## Words -/

theorem v6_at (i : S127.Idx) : val_main_v6 (F := Ideal) i = BitVec.ofNat 32 (16 * (i 0).val) := by
  rw [val_main_v6_apply, val_main_v4_apply, val_main_v5_apply, val_main_c_apply]
  show BitVec.ofNat 32 (i 0).val * BitVec.ofNat 32 16 = _
  rw [← BitVec.ofNat_mul, Nat.mul_comm]

theorem v12_at (i : S127x32.Idx) : val_main_v12 (F := Ideal) i = BitVec.ofNat 32 (16 * (i 0).val + (i 1).val) := by
  rw [val_main_v12_apply, val_main_v10_apply, val_main_v7_apply, v6_at, val_main_v11_apply, val_main_v9_apply, val_main_v8_apply]
  show BitVec.ofNat 32 (16 * (i 0).val) + BitVec.ofNat 32 (i 1).val = _
  rw [← BitVec.ofNat_add]

theorem row_lt (i : S127x32.Idx) : 16 * (i 0).val + (i 1).val < 2048 := by
  have h0 : (i 0).val < 127 := (i 0).isLt
  have h1 : (i 1).val < 32 := (i 1).isLt
  omega

theorem v17_at (i : S127x32.Idx) : val_main_v17 (F := Ideal) i = BitVec.ofNat 32 (16 * (i 0).val + (i 1).val) := by
  have h := row_lt i
  rw [val_main_v17_apply, val_main_v14_apply, v12_at, val_main_v13_apply, val_main_c_0_apply, show (0#32 : BitVec 32) = BitVec.ofNat 32 0 from rfl,
    cmpi_slt_ofNat (by omega) (by omega), sel_of, if_neg (by omega)]

theorem v26_at (i : S127x32.Idx) : val_main_v26 (F := Ideal) i = BitVec.ofNat 32 (16 * (i 0).val + (i 1).val) := by
  have h := row_lt i
  rw [val_main_v26_apply, val_main_v23_apply, v12_at, val_main_v22_apply, val_main_c_2_apply, show (0#32 : BitVec 32) = BitVec.ofNat 32 0 from rfl,
    cmpi_slt_ofNat (by omega) (by omega), sel_of, if_neg (by omega)]

/-! ## The gather -/

/-- The gather's dimension numbers. -/
abbrev gD := gather_S1x2048x4x128_S127x32x1_S1x127x32x4x128_034_1_n_n_1_2_114128

theorem gD_start (idx : IVec S127x32x1 32) (j : S1x127x32x4x128.Idx) (a : ℕ) (ha : a < 2048) (h : idx (ix3 (j 1) (j 2) 0) = BitVec.ofNat 32 a) :
    gD.start j idx 1 = a := by
  unfold GatherDims.start
  rw [dif_pos (by decide)]
  have e : idx (gD.siIdx j ⟨gD.startIndexMap.idxOf 1, List.idxOf_lt_length_iff.2 (by decide)⟩) = BitVec.ofNat 32 a := by
    refine (congrArg idx (funext fun b => ?_)).trans h
    match b with
    | ⟨0, _⟩ => rfl
    | ⟨1, _⟩ => rfl
    | ⟨2, _⟩ => rfl
  rw [e, toInt_ofNat_of_lt (by omega)]
  show min ((a : ℤ).toNat) (2048 - 1) = a
  omega

theorem gather_at (x : S1x2048x4x128.Idx → EReal) (idx : IVec S127x32x1 32) (j : S1x127x32x4x128.Idx) (a : ℕ) (ha : a < 2048)
    (h : idx (ix3 (j 1) (j 2) 0) = BitVec.ofNat 32 a) : Host.gather gD x idx j = headRows x (j 3) ⟨a, ha⟩ (j 4) := by
  show x (gD.operandIdx j idx) = x _
  congr 1
  funext b
  apply Fin.ext
  show gD.start j idx b + gD.batchCoord j b + gD.offCoord j b = _
  rw [gD.batchCoord_eq_zero j b (by exact List.not_mem_nil), Nat.add_zero]
  match b with
  | ⟨0, _⟩ =>
    show gD.start j idx 0 + gD.offCoord j 0 = 0
    have h1 : gD.start j idx 0 = 0 := by unfold GatherDims.start; rw [dif_neg (by decide)]
    have h2 : gD.offCoord j 0 = (j 0).val := by unfold GatherDims.offCoord; rw [dif_pos (by decide)]; rfl
    have h3 : (j 0).val < 1 := (j 0).isLt
    omega
  | ⟨1, _⟩ =>
    show gD.start j idx 1 + gD.offCoord j 1 = a
    have h2 : gD.offCoord j 1 = 0 := by unfold GatherDims.offCoord; rw [dif_neg (by decide)]
    rw [gD_start idx j a ha h, h2, Nat.add_zero]
  | ⟨2, _⟩ =>
    show gD.start j idx 2 + gD.offCoord j 2 = (j 3).val
    have h1 : gD.start j idx 2 = 0 := by unfold GatherDims.start; rw [dif_neg (by decide)]
    have h2 : gD.offCoord j 2 = (j 3).val := by unfold GatherDims.offCoord; rw [dif_pos (by decide)]; rfl
    omega
  | ⟨3, _⟩ =>
    show gD.start j idx 3 + gD.offCoord j 3 = (j 4).val
    have h1 : gD.start j idx 3 = 0 := by unfold GatherDims.start; rw [dif_neg (by decide)]
    have h2 : gD.offCoord j 3 = (j 4).val := by unfold GatherDims.offCoord; rw [dif_pos (by decide)]; rfl
    omega

/-! ## Arguments -/

section

variable (x0 x1 x2 : (⟨S1x2048x4x128, .f32⟩ : BufTy).Contents (Elt Ideal)) (x3 x4 : (⟨S32, .f32⟩ : BufTy).Contents (Elt Ideal))

theorem head_at (x : S1x2048x4x128.Idx → EReal) (j : S1x2048x4x128.Idx) : x j = headRows x (j 2) (j 1) (j 3) := by
  show x j = x _
  congr 1
  funext b
  match b with
  | ⟨0, _⟩ => exact Fin.ext (by have h : (j 0).val < 1 := (j 0).isLt; show (j 0).val = 0; omega)
  | ⟨1, _⟩ => rfl
  | ⟨2, _⟩ => rfl
  | ⟨3, _⟩ => rfl

theorem v0_at (i : S1x4x2048x128.Idx) : val_main_v0 (F := Ideal) x0 i = headRows x0 (i 1) (i 2) (i 3) :=
  (val_main_v0_apply x0 i).trans (head_at x0 _)
theorem v1_at (i : S1x4x2048x128.Idx) : val_main_v1 (F := Ideal) x1 i = headRows x1 (i 1) (i 2) (i 3) :=
  (val_main_v1_apply x1 i).trans (head_at x1 _)
theorem v2_at (i : S1x4x2048x128.Idx) : val_main_v2 (F := Ideal) x2 i = headRows x2 (i 1) (i 2) (i 3) :=
  (val_main_v2_apply x2 i).trans (head_at x2 _)

theorem w_at (w : S32.Idx → EReal) (j : S32.Idx) : w j = entries w (j 0) := by
  show w j = w _
  congr 1
  funext b
  match b with
  | ⟨0, _⟩ => rfl

/-- The pooled keys. -/
theorem v21_at (i : S1x4x127x128.Idx) : val_main_v21 (F := Ideal) x1 x3 i = pool (entries x3) (headRows x1 (i 1)) (i 2) (i 3) := by
  rw [val_main_v21_apply, val_main_v20_apply]
  unfold Nsa.pool
  refine Finset.sum_congr rfl fun k _ => ?_
  rw [w_at x3]
  refine congrArg (entries x3 k * ·) ?_
  unfold val_main_v19
  have hn : (i 2).val < 127 := (i 2).isLt
  refine gather_at x1 _ _ (16 * (i 2).val + k.val) (by omega) ?_
  rw [val_main_v18_apply, v17_at]

/-- The pooled values. -/
theorem v30_at (i : S1x4x127x128.Idx) : val_main_v30 (F := Ideal) x2 x4 i = pool (entries x4) (headRows x2 (i 1)) (i 2) (i 3) := by
  rw [val_main_v30_apply, val_main_v29_apply]
  unfold Nsa.pool
  refine Finset.sum_congr rfl fun k _ => ?_
  rw [w_at x4]
  refine congrArg (entries x4 k * ·) ?_
  unfold val_main_v28
  have hn : (i 2).val < 127 := (i 2).isLt
  refine gather_at x2 _ _ (16 * (i 2).val + k.val) (by omega) ?_
  rw [val_main_v27_apply, v26_at]

/-! ## The first softmax -/

/-- The head's pooled keys. -/
abbrev CK (h : Fin 4) : Fin 127 → Fin 128 → EReal := pool (entries x3) (headRows x1 h)

theorem v33_at (i : S1x4x2048x127.Idx) :
    val_main_v33 (F := Ideal) x0 x1 x3 i = score (headRows x0 (i 1) (i 2)) (CK x1 x3 (i 1) (i 3)) := by
  rw [val_main_v33_apply, val_main_v31_apply, val_main_v32_apply]
  unfold score
  refine congrArg (· * scl) (Finset.sum_congr rfl fun k _ => ?_)
  rw [v0_at, v21_at]; rfl

theorem v38_at (i : S2048x127.Idx) : val_main_v38 (F := Ideal) i = BitVec.ofBool (decide (16 * (i 1).val ≤ (i 0).val)) := by
  have h0 : (i 0).val < 2048 := (i 0).isLt
  have h1 : (i 1).val < 127 := (i 1).isLt
  rw [val_main_v38_apply, val_main_v36_apply, val_main_v34_apply, v6_at, val_main_v37_apply, val_main_v35_apply, val_main_v3_apply]
  exact cmpi_sle_ofNat (by show 16 * (i 1).val < _; omega) (by show (i 0).val < _; omega)

theorem v39_at (i : S1x1x2048x127.Idx) : val_main_v39 (F := Ideal) i = BitVec.ofBool (decide (16 * (i 3).val ≤ (i 2).val)) := by
  rw [val_main_v39_apply, v38_at]

theorem v40_at (i : S1x4x2048x127.Idx) : val_main_v40 (F := Ideal) x0 x1 x3 i
    = if cmpMask (i 2).val (i 3) then score (headRows x0 (i 1) (i 2)) (CK x1 x3 (i 1) (i 3)) else ⊥ := by
  rw [val_main_v40_apply, val_main_call0_v1_apply, v39_at, v33_at, val_main_call0_v2_apply, val_main_call0_v0_apply, val_main_cst_4_apply, bot_bits]
  exact sel_of _ _ _

/-- A row's maximum on the host. -/
theorem max127 (y : FVec Ideal S1x4x2048x127 .f32) (init : FVec Ideal S_ .f32) (hi : ∀ j, init j = ⊥) (j : S1x4x2048.Idx) :
    Host.reduce FloatOps.maximumf y init reducesTo_S1x4x2048x127_S1x4x2048_d3 h_S_ j = Finset.univ.sup fun k : Fin 127 => y (idx_main_v49 j k) := by
  rw [Host.reduce_eq_fold_single FloatOps.maximumf y init reducesTo_S1x4x2048x127_S1x4x2048_d3 (by decide) h_S_ j, hi]
  refine (fold_max _ _).trans (congrArg _ (funext fun k => congrArg y (funext fun a => Fin.ext ?_)))
  match a with
  | ⟨0, _⟩ => rfl
  | ⟨1, _⟩ => rfl
  | ⟨2, _⟩ => rfl
  | ⟨3, _⟩ => rfl

theorem v41_at (j : S1x4x2048.Idx) : val_main_v41 (F := Ideal) x0 x1 x3 j
    = smax (cmpMask (j 2).val) fun n => score (headRows x0 (j 1) (j 2)) (CK x1 x3 (j 1) n) := by
  unfold val_main_v41
  refine (max127 _ _ (fun k => ?_) j).trans ?_
  · rw [val_main_cst_5_apply]; exact bot_bits
  · unfold smax
    exact congrArg _ (funext fun n => v40_at x0 x1 x3 _)

theorem v48_at (i : S1x4x2048x127.Idx) : val_main_v48 (F := Ideal) x0 x1 x3 i
    = snum (cmpMask (i 2).val) (fun n => score (headRows x0 (i 1) (i 2)) (CK x1 x3 (i 1) n)) (i 3) := by
  rw [val_main_v48_apply, val_main_v45_apply, val_main_v44_apply, v40_at, val_main_v43_apply, val_main_v42_apply, v41_at, val_main_v47_apply,
    val_main_v46_apply, v39_at, uind_of]
  unfold snum
  exact masked_num _ _ _

theorem zero_bits : (FloatOps.ofBits .f32 0x00000000#32 : Ideal .f32) = 0 := by
  show Ideal.ofBits .f32 0x00000000#32 = 0
  simp [Ideal.ofBits, Ideal.ieee]

/-- The weights of the pooled blocks. -/
theorem v54_at (i : S1x4x2048x127.Idx) : val_main_v54 (F := Ideal) x0 x1 x3 i
    = cmpP (headRows x0 (i 1) (i 2)) (i 2).val (CK x1 x3 (i 1)) (i 3) := by
  rw [val_main_v54_apply, v48_at, val_main_v53_apply, val_main_v52_apply, val_main_v50_apply, val_main_v49_apply, val_main_v51_apply,
    val_main_cst_6_apply, val_main_cst_7_apply, zero_bits]
  unfold cmpP sden
  refine congrArg (Ideal.div _) ?_
  refine congrArg (max · eps) ?_
  rw [zero_add]
  exact Finset.sum_congr rfl fun k _ => v48_at x0 x1 x3 _

/-- The pooled branch. -/
theorem v55_at (i : S1x4x2048x128.Idx) : val_main_v55 (F := Ideal) x0 x1 x2 x3 x4 i
    = cmpOut (headRows x0 (i 1) (i 2)) (i 2).val (CK x1 x3 (i 1)) (pool (entries x4) (headRows x2 (i 1))) (i 3) := by
  rw [val_main_v55_apply]
  unfold cmpOut
  refine Finset.sum_congr rfl fun n _ => ?_
  rw [v54_at, v30_at]; rfl

end

end Cert.ReferenceIdeal.Hand

end
-- ==== Proof.RefSel.lean ====
module

public import proofs.«01_k».proof.Proof.RefCmp
public import proofs.«01_k».proof.Proof.Select

@[expose] public section

/-! # The reference's choice of blocks

Its sum over the pooled blocks of a block is `worth`; the indices of its sort mark the blocks of rank below eight. -/

set_option maxRecDepth 16384

noncomputable section

namespace Cert.ReferenceIdeal.Hand

open Cert.ReferenceIdeal Cert.ReferenceIdeal.Gen Cert.ReferenceIdeal.Read Cert.Nsa
open Idealize.ShloMosaic Idealize.ShloMosaic.ValueIdx Idealize.ShloMosaic.WordCmp

/-! ## Floors of quotients -/

abbrev hsg (a : BitVec 32) : BitVec 32 := if a = 0 then 0 else if a.msb then -1 else 1

/-- The floor of a quotient as the host writes it. -/
abbrev hflr (a c : BitVec 32) : BitVec 32 :=
  Scalar.select (IntOp.andi (IntOp.cmpi .ne (hsg a) (hsg c)) (IntOp.cmpi .ne (IntOp.remsi .host a c) 0#32))
    (IntOp.subi (IntOp.divsi .host a c) 1#32) (IntOp.divsi .host a c)

theorem hflr_blk : ∀ n : Fin 127, hflr (BitVec.ofNat 32 (16 * n.val)) 64#32 = BitVec.ofNat 32 (n.val / 4) := by decide +kernel
theorem hflr_pos : ∀ t : Fin 2048, hflr (BitVec.ofNat 32 t.val) 64#32 = BitVec.ofNat 32 (t.val / 64) := by decide +kernel

theorem sg6_at (i : S127.Idx) : val_main_call1_v3 (F := Ideal) i = hsg (val_main_v6 (F := Ideal) i) := rfl
theorem sg8_at (i : S_.Idx) : val_main_call1_v4 (F := Ideal) i = hsg (val_main_call1_v0 (F := Ideal) i) := rfl
theorem sg3_at (i : S2048.Idx) : val_main_call3_v3 (F := Ideal) i = hsg (val_main_v3 (F := Ideal) i) := rfl
theorem sg9_at (i : S_.Idx) : val_main_call3_v4 (F := Ideal) i = hsg (val_main_call3_v0 (F := Ideal) i) := rfl

theorem v56_at (i : S127.Idx) : val_main_v56 (F := Ideal) i = BitVec.ofNat 32 ((i 0).val / 4) := by
  rw [val_main_v56_apply, val_main_call1_v11_apply, val_main_call1_v6_apply, sg6_at, val_main_call1_v5_apply, sg8_at, val_main_call1_v10_apply,
    val_main_call1_v8_apply, val_main_call1_v9_apply, val_main_call1_c_apply, val_main_call1_v13_apply, val_main_call1_v2_apply,
    val_main_call1_v12_apply, val_main_call1_c_0_apply, val_main_call1_v1_apply, val_main_call1_v7_apply, val_main_call1_v0_apply,
    val_main_c_8_apply, v6_at]
  exact hflr_blk (i 0)

theorem v59_at (i : S2048.Idx) : val_main_v59 (F := Ideal) i = BitVec.ofNat 32 ((i 0).val / 64) := by
  rw [val_main_v59_apply, val_main_call3_v11_apply, val_main_call3_v6_apply, sg3_at, val_main_call3_v5_apply, sg9_at, val_main_call3_v10_apply,
    val_main_call3_v8_apply, val_main_call3_v9_apply, val_main_call3_c_apply, val_main_call3_v13_apply, val_main_call3_v2_apply,
    val_main_call3_v12_apply, val_main_call3_c_0_apply, val_main_call3_v1_apply, val_main_call3_v7_apply, val_main_call3_v0_apply,
    val_main_c_9_apply, val_main_v3_apply]
  exact hflr_pos (i 0)

/-! ## Indicators -/

theorem v57_at (i : S127x32.Idx) : val_main_v57 (F := Ideal) i = if (i 0).val / 4 = (i 1).val then 1 else 0 := by
  have h0 : (i 0).val < 127 := (i 0).isLt
  have h1 : (i 1).val < 32 := (i 1).isLt
  rw [val_main_v57_apply, val_main_call2_v4_apply, val_main_call2_v2_apply, val_main_call2_v0_apply, v56_at, val_main_call2_v3_apply,
    val_main_call2_v1_apply]
  refine (congrArg _ (cmpi_eq_ofNat (by show (i 0).val / 4 < _; omega) (by show (i 1).val < _; omega))).trans ?_
  exact uind_of _

theorem v60_at (i : S2048x32.Idx) : val_main_v60 (F := Ideal) i = if (i 0).val / 64 = (i 1).val then 1 else 0 := by
  have h0 : (i 0).val < 2048 := (i 0).isLt
  have h1 : (i 1).val < 32 := (i 1).isLt
  rw [val_main_v60_apply, val_main_call4_v4_apply, val_main_call4_v2_apply, val_main_call4_v0_apply, v59_at, val_main_call4_v3_apply,
    val_main_call4_v1_apply]
  refine (congrArg _ (cmpi_eq_ofNat (by show (i 0).val / 64 < _; omega) (by show (i 1).val < _; omega))).trans ?_
  exact uind_of _

theorem v62_at (i : S2048x32.Idx) : val_main_v62 (F := Ideal) i = if (i 1).val = 0 then 1 else 0 := by
  have h1 : (i 1).val < 32 := (i 1).isLt
  rw [val_main_v62_apply, val_main_call5_v4_apply, val_main_call5_v2_apply, val_main_call5_v0_apply, val_main_v61_apply, val_main_c_10_apply,
    val_main_call5_v3_apply, val_main_call5_v1_apply, show (0#32 : BitVec 32) = BitVec.ofNat 32 0 from rfl]
  refine (congrArg _ (cmpi_eq_ofNat (by omega) (by show (i 1).val < _; omega))).trans ?_
  refine (uind_of _).trans ?_
  show (if 0 = (i 1).val then (1 : EReal) else 0) = _
  simp only [eq_comm]

section

variable (x0 x1 x2 : (⟨S1x2048x4x128, .f32⟩ : BufTy).Contents (Elt Ideal)) (x3 x4 : (⟨S32, .f32⟩ : BufTy).Contents (Elt Ideal))

/-- The row's worths. -/
abbrev wor (h : Fin 4) (t : Fin 2048) : Fin 32 → EReal := worth (headRows x0 h t) t.val (CK x1 x3 h)

theorem v72_at (i : S1x4x2048x32.Idx) : val_main_v72 (F := Ideal) x0 x1 x3 i
    = (∑ n : Fin 127, cmpP (headRows x0 (i 1) (i 2)) (i 2).val (CK x1 x3 (i 1)) n * (if n.val / 4 = (i 3).val then 1 else 0))
      + ownW * (if (i 2).val / 64 = (i 3).val then 1 else 0) + firstW * (if (i 3).val = 0 then 1 else 0) := by
  rw [val_main_v72_apply, val_main_v67_apply, val_main_v58_apply, val_main_v66_apply, val_main_v65_apply, val_main_v64_apply, val_main_cst_11_apply,
    val_main_v63_apply, v60_at, val_main_v71_apply, val_main_v70_apply, val_main_v69_apply, val_main_cst_12_apply, val_main_v68_apply, v62_at]
  refine congrArg (· + ownW * (if (i 2).val / 64 = (i 3).val then (1 : EReal) else 0) + firstW * (if (i 3).val = 0 then 1 else 0)) ?_
  refine Finset.sum_congr rfl fun n _ => ?_
  rw [v54_at, v57_at]
  rfl

theorem v80_at (i : S2048x32.Idx) : val_main_v80 (F := Ideal) i = BitVec.ofBool (decide ((i 0).val < (i 1).val * 64)) := by
  have h0 : (i 0).val < 2048 := (i 0).isLt
  have h1 : (i 1).val < 32 := (i 1).isLt
  rw [val_main_v80_apply, val_main_v78_apply, val_main_v76_apply, val_main_v75_apply, val_main_v73_apply, val_main_v74_apply, val_main_c_13_apply,
    val_main_v79_apply, val_main_v77_apply, val_main_v3_apply]
  have e : IntOp.muli (BitVec.ofNat 32 (i 1).val) 64#32 = BitVec.ofNat 32 ((i 1).val * 64) := by
    show BitVec.ofNat 32 (i 1).val * BitVec.ofNat 32 64 = _
    rw [← BitVec.ofNat_mul]
  refine (congrArg (IntOp.cmpi .sgt · _) e).trans ?_
  exact cmpi_sgt_ofNat (by omega) (by show (i 0).val < _; omega)

/-- The blocks' worths. -/
theorem v82_at (i : S1x4x2048x32.Idx) : val_main_v82 (F := Ideal) x0 x1 x3 i = wor x0 x1 x3 (i 1) (i 2) (i 3) := by
  rw [val_main_v82_apply, val_main_call6_v1_apply, val_main_v81_apply, v80_at, v72_at, val_main_call6_v2_apply, val_main_call6_v0_apply,
    val_main_cst_14_apply, bot_bits]
  exact sel_of _ _ _

/-! ## The sort -/

theorem cmp_gt (a b : EReal) : ((FloatOps.cmpfTotal (F := Ideal) (φ := .f32) .gt a b) == 1#1) = decide (b < a) := by
  rw [Ideal.cmpfTotal_def]
  show (BitVec.ofBool (decide (b < a)) == 1#1) = _
  by_cases h : b < a <;> simp [h]

theorem topk_at (y : FVec Ideal S1x4x2048x32 .f32) (i : S1x4x2048x8.Idx) (x : Fin 32 → EReal)
    (hx : ∀ j : S1x4x2048x32.Idx, (j 1).val = (i 1).val → (j 2).val = (i 2).val → y j = x (j 3)) :
    (Host.topK S1x4x2048x8 3 (FloatOps.cmpfTotal .gt) y sliceFits_S1x4x2048x32_S1x4x2048x8).2 i
      = BitVec.ofNat 32 (sortedFrom (gtB x) ⟨(i 3).val, by have h : (i 3).val < 8 := (i 3).isLt; omega⟩).val := by
  have h3 : (i 3).val < 8 := (i 3).isLt
  have h1 : (i 1).val < 4 := (i 1).isLt
  have h2 : (i 2).val < 2048 := (i 2).isLt
  unfold Host.topK
  dsimp only
  refine (extractStridedSlice_apply _ _ _ i (ix4 (0 : Fin 1) (⟨(i 1).val, h1⟩ : Fin 4) (⟨(i 2).val, h2⟩ : Fin 2048) (⟨(i 3).val, by omega⟩ : Fin 32)) (fun a => ?_)).trans ?_
  · match a with
    | ⟨0, _⟩ => exact (by have h : (i 0).val < 1 := (i 0).isLt; show 0 = 0 + (i 0).val; omega)
    | ⟨1, _⟩ => exact (Nat.zero_add _).symm
    | ⟨2, _⟩ => exact (Nat.zero_add _).symm
    | ⟨3, _⟩ => exact (Nat.zero_add _).symm
  · unfold Host.sort2
    rw [dif_pos (by decide)]
    dsimp only
    rw [dif_pos (by decide)]
    generalize hJ : (ix4 (0 : Fin 1) (⟨(i 1).val, h1⟩ : Fin 4) (⟨(i 2).val, h2⟩ : Fin 2048) (⟨(i 3).val, by omega⟩ : Fin 32) : S1x4x2048x32.Idx) = J
    have hJ3 : (J (3 : Fin 4) : Fin 32) = (⟨(i 3).val, by omega⟩ : Fin 32) := by subst hJ; rfl
    have e : ∀ k : Fin 32, iotaInDim S1x4x2048x32 32 (3 : Fin 4) (J.along (3 : Fin 4) k) = BitVec.ofNat 32 k.val := fun _ => rfl
    refine (e _).trans ?_
    have hc : ∀ k : Fin 32, y (J.along (3 : Fin 4) k) = x k := fun k => hx _ (by subst hJ; rfl) (by subst hJ; rfl)
    have hP : (fun k k' : Fin 32 => FloatOps.cmpfTotal (F := Ideal) (φ := .f32) .gt (y (J.along (3 : Fin 4) k)) (y (J.along (3 : Fin 4) k')) == 1#1)
        = gtB x := by
      funext k k'
      rw [hc, hc]
      exact cmp_gt _ _
    exact (congrArg (fun p : Fin 32 → Fin 32 → Bool => BitVec.ofNat 32 (sortedFrom p (J (3 : Fin 4))).val) hP).trans
      (congrArg (fun c : Fin 32 => BitVec.ofNat 32 (sortedFrom (gtB x) c).val) hJ3)

theorem indices_at (i : S1x4x2048x8.Idx) : val_main_indices (F := Ideal) x0 x1 x3 i
    = BitVec.ofNat 32 (sortedFrom (gtB (wor x0 x1 x3 (i 1) (i 2))) ⟨(i 3).val, by have h : (i 3).val < 8 := (i 3).isLt; omega⟩).val := by
  unfold val_main_indices
  refine topk_at _ i _ fun j e1 e2 => ?_
  rw [v82_at, show (j 1 : Fin 4) = i 1 from Fin.ext e1, show (j 2 : Fin 2048) = i 2 from Fin.ext e2]

theorem v83_at (i : S1x4x2048x8x32.Idx) : val_main_v83 (F := Ideal) x0 x1 x3 i
    = if (sortedFrom (gtB (wor x0 x1 x3 (i 1) (i 2))) (⟨(i 3).val, by have h : (i 3).val < 8 := (i 3).isLt; omega⟩ : Fin 32)).val = (i 4).val
      then 1 else 0 := by
  have h4 : (i 4).val < 32 := (i 4).isLt
  rw [val_main_v83_apply, val_main_call7_v4_apply, val_main_call7_v2_apply, val_main_call7_v0_apply, indices_at, val_main_call7_v3_apply,
    val_main_call7_v1_apply]
  refine (congrArg _ (cmpi_eq_ofNat (lt_trans (Fin.isLt _) (by norm_num)) (by show (i 4).val < _; omega))).trans ?_
  exact uind_of _

/-- A sum of indicators is positive when one of them holds. -/
theorem ind_pos {ι : Type} [Fintype ι] (P : ι → Prop) [DecidablePred P] : (0 : EReal) < (∑ k, if P k then 1 else 0) ↔ ∃ k, P k := by
  constructor
  · intro h
    by_contra hn
    have : ∀ k, ¬ P k := fun k hk => hn ⟨k, hk⟩
    simp [this] at h
  · rintro ⟨k, hk⟩
    have h1 : (if P k then (1 : EReal) else 0) ≤ ∑ k, if P k then 1 else 0 :=
      Finset.single_le_sum (f := fun k => if P k then (1 : EReal) else 0) (fun j _ => by split <;> simp) (Finset.mem_univ k)
    rw [if_pos hk] at h1
    exact lt_of_lt_of_le zero_lt_one h1

theorem v86_at (i : S1x4x2048x32.Idx) : val_main_v86 (F := Ideal) x0 x1 x3 i
    = BitVec.ofBool (decide (rank (wor x0 x1 x3 (i 1) (i 2)) (i 3) < 8)) := by
  rw [val_main_v86_apply, val_main_v84_apply, val_main_v85_apply, val_main_cst_15_apply, val_main_cst_16_apply, zero_bits, zero_add]
  show BitVec.ofBool (decide ((0 : EReal) < _)) = _
  refine congrArg BitVec.ofBool (decide_eq_decide.2 ?_)
  refine Iff.trans ?_ (exists_sorted_iff (wor x0 x1 x3 (i 1) (i 2)) (i 3))
  refine Iff.trans ?_ (exists_congr fun k => Fin.ext_iff.symm)
  refine Iff.trans ?_ (ind_pos _)
  refine iff_of_eq (congrArg ((0 : EReal) < ·) (Finset.sum_congr rfl fun k _ => ?_))
  exact v83_at x0 x1 x3 _

/-- The mask of the chosen blocks, key by key. -/
theorem v88_at (i : S1x4x2048x2048.Idx) : val_main_v88 (F := Ideal) x0 x1 x3 i
    = BitVec.ofBool (decide (rank (wor x0 x1 x3 (i 1) (i 2)) ⟨(i 3).val / 64, by have h : (i 3).val < 2048 := (i 3).isLt; omega⟩ < 8)) := by
  have h0 : (i 0).val < 1 := (i 0).isLt
  have h1 : (i 1).val < 4 := (i 1).isLt
  have h2 : (i 2).val < 2048 := (i 2).isLt
  have h3 : (i 3).val < 2048 := (i 3).isLt
  rw [val_main_v88_apply, val_main_v87_apply, v86_at]
  have e1 : (idx_main_v87 (idx_main_v88 i) 1 : Fin 4) = i 1 := Fin.ext (by
    show ((((i 0).val * 4 + (i 1).val) * 2048 + (i 2).val) * 2048 + (i 3).val) / 4194304 % 4 = (i 1).val; omega)
  have e2 : (idx_main_v87 (idx_main_v88 i) 2 : Fin 2048) = i 2 := Fin.ext (by
    show ((((i 0).val * 4 + (i 1).val) * 2048 + (i 2).val) * 2048 + (i 3).val) / 2048 % 2048 = (i 2).val; omega)
  have e3 : (idx_main_v87 (idx_main_v88 i) 3 : Fin 32) = (⟨(i 3).val / 64, by omega⟩ : Fin 32) := Fin.ext (by
    show ((((i 0).val * 4 + (i 1).val) * 2048 + (i 2).val) * 2048 + (i 3).val) / 64 % 32 = (i 3).val / 64; omega)
  rw [e1, e2, e3]

theorem v93_at (i : S2048x2048.Idx) : val_main_v93 (F := Ideal) i = BitVec.ofBool (decide ((i 1).val ≤ (i 0).val)) := by
  have h0 : (i 0).val < 2048 := (i 0).isLt
  have h1 : (i 1).val < 2048 := (i 1).isLt
  rw [val_main_v93_apply, val_main_v91_apply, val_main_v89_apply, val_main_v3_apply, val_main_v92_apply, val_main_v90_apply, val_main_v3_apply]
  exact cmpi_sge_ofNat (by show (i 0).val < _; omega) (by show (i 1).val < _; omega)

/-- The selected branch's mask. -/
theorem v99_at (i : S1x4x2048x2048.Idx) : val_main_v99 (F := Ideal) x0 x1 x3 i
    = BitVec.ofBool (decide (selMask (headRows x0 (i 1) (i 2)) (i 2).val (CK x1 x3 (i 1)) (i 3))) := by
  rw [val_main_v99_apply, v88_at, val_main_v98_apply, val_main_v97_apply, v93_at]
  refine (andi_ofBool _ _).trans (congrArg BitVec.ofBool ?_)
  exact (Bool.decide_and _ _).symm

end

end Cert.ReferenceIdeal.Hand

end
-- ==== Proof.RefAtt.lean ====
module

public import proofs.«01_k».proof.Proof.RefSel

@[expose] public section

/-! # The reference's result

Its two masked softmaxes over the keys are `attend`, its sigmoid is `gate`; the three branches add up to `nsa`. -/

set_option maxRecDepth 16384

noncomputable section

namespace Cert.ReferenceIdeal.Hand

open Cert.ReferenceIdeal Cert.ReferenceIdeal.Gen Cert.ReferenceIdeal.Read Cert.Nsa
open Idealize.ShloMosaic Idealize.ShloMosaic.ValueIdx Idealize.ShloMosaic.WordCmp

section

variable (x0 x1 x2 : (⟨S1x2048x4x128, .f32⟩ : BufTy).Contents (Elt Ideal)) (x3 x4 : (⟨S32, .f32⟩ : BufTy).Contents (Elt Ideal))
  (x5 : (⟨S128x3, .f32⟩ : BufTy).Contents (Elt Ideal)) (x6 : (⟨S3, .f32⟩ : BufTy).Contents (Elt Ideal))

/-- The row's scores against the keys. -/
abbrev sc (h : Fin 4) (t : Fin 2048) (j : Fin 2048) : EReal := score (headRows x0 h t) (headRows x1 h j)

theorem v96_at (i : S1x4x2048x2048.Idx) : val_main_v96 (F := Ideal) x0 x1 i = sc x0 x1 (i 1) (i 2) (i 3) := by
  rw [val_main_v96_apply, val_main_v94_apply, val_main_v95_apply, val_main_cst_17_apply]
  unfold sc score
  refine congrArg (· * scl) (Finset.sum_congr rfl fun k _ => ?_)
  rw [v0_at, v1_at]; rfl

/-- A row's maximum over the keys. -/
theorem max2048 (y : FVec Ideal S1x4x2048x2048 .f32) (init : FVec Ideal S_ .f32) (hi : ∀ j, init j = ⊥) (j : S1x4x2048.Idx) :
    Host.reduce FloatOps.maximumf y init reducesTo_S1x4x2048x2048_S1x4x2048_d3 h_S_ j = Finset.univ.sup fun k : Fin 2048 => y (idx_main_v108 j k) := by
  rw [Host.reduce_eq_fold_single FloatOps.maximumf y init reducesTo_S1x4x2048x2048_S1x4x2048_d3 (by decide) h_S_ j, hi]
  refine (fold_max _ _).trans (congrArg _ (funext fun k => congrArg y (funext fun a => Fin.ext ?_)))
  match a with
  | ⟨0, _⟩ => rfl
  | ⟨1, _⟩ => rfl
  | ⟨2, _⟩ => rfl
  | ⟨3, _⟩ => rfl

/-! ## The selected branch -/

/-- The selected branch's mask on a row. -/
abbrev sm (h : Fin 4) (t : Fin 2048) : Fin 2048 → Prop := selMask (headRows x0 h t) t.val (CK x1 x3 h)

theorem v100_at (i : S1x4x2048x2048.Idx) : val_main_v100 (F := Ideal) x0 x1 x3 i
    = if sm x0 x1 x3 (i 1) (i 2) (i 3) then sc x0 x1 (i 1) (i 2) (i 3) else ⊥ := by
  rw [val_main_v100_apply, v99_at, v96_at, val_main_call8_v1_apply, val_main_call8_v0_apply, val_main_cst_18_apply, bot_bits]
  exact sel_of _ _ _

theorem v101_at (j : S1x4x2048.Idx) : val_main_v101 (F := Ideal) x0 x1 x3 j = smax (sm x0 x1 x3 (j 1) (j 2)) (sc x0 x1 (j 1) (j 2)) := by
  unfold val_main_v101
  refine (max2048 _ _ (fun k => ?_) j).trans ?_
  · rw [val_main_cst_19_apply]; exact bot_bits
  · unfold smax
    exact congrArg _ (funext fun n => v100_at x0 x1 x3 _)

theorem v107_at (i : S1x4x2048x2048.Idx) : val_main_v107 (F := Ideal) x0 x1 x3 i
    = snum (sm x0 x1 x3 (i 1) (i 2)) (sc x0 x1 (i 1) (i 2)) (i 3) := by
  rw [val_main_v107_apply, val_main_v105_apply, val_main_v104_apply, v100_at, val_main_v103_apply, val_main_v102_apply, v101_at, val_main_v106_apply,
    v99_at, uind_of]
  unfold snum
  exact masked_num _ _ _

theorem v113_at (i : S1x4x2048x2048.Idx) : val_main_v113 (F := Ideal) x0 x1 x3 i
    = Ideal.div (snum (sm x0 x1 x3 (i 1) (i 2)) (sc x0 x1 (i 1) (i 2)) (i 3)) (sden (sm x0 x1 x3 (i 1) (i 2)) (sc x0 x1 (i 1) (i 2))) := by
  rw [val_main_v113_apply, v107_at, val_main_v112_apply, val_main_v111_apply, val_main_v109_apply, val_main_v108_apply, val_main_v110_apply,
    val_main_cst_20_apply, val_main_cst_21_apply, zero_bits]
  unfold sden
  refine congrArg (Ideal.div _) ?_
  refine congrArg (max · eps) ?_
  rw [zero_add]
  exact Finset.sum_congr rfl fun k _ => v107_at x0 x1 x3 _

theorem v114_at (i : S1x4x2048x128.Idx) : val_main_v114 (F := Ideal) x0 x1 x2 x3 i
    = attend (headRows x0 (i 1) (i 2)) (headRows x1 (i 1)) (headRows x2 (i 1)) (sm x0 x1 x3 (i 1) (i 2)) (i 3) := by
  rw [val_main_v114_apply]
  refine (Finset.sum_congr rfl fun n _ => ?_).trans (attend_sum _ _ _ _ _)
  rw [v113_at, v2_at]; rfl

/-! ## The window -/

theorem v121_at (i : S2048x2048.Idx) (h : (i 1).val ≤ (i 0).val) :
    val_main_v121 (F := Ideal) i = BitVec.ofBool (decide ((i 0).val - (i 1).val ≤ 256)) := by
  have h0 : (i 0).val < 2048 := (i 0).isLt
  rw [val_main_v121_apply, val_main_v119_apply, val_main_v117_apply, val_main_v115_apply, val_main_v3_apply, val_main_v118_apply, val_main_v116_apply,
    val_main_v3_apply, val_main_v120_apply, val_main_c_22_apply]
  have e : IntOp.subi (BitVec.ofNat 32 (i 0).val) (BitVec.ofNat 32 (i 1).val) = BitVec.ofNat 32 ((i 0).val - (i 1).val) := by
    show BitVec.ofNat 32 (i 0).val - BitVec.ofNat 32 (i 1).val = _
    rw [show BitVec.ofNat 32 (i 0).val = BitVec.ofNat 32 ((i 0).val - (i 1).val) + BitVec.ofNat 32 (i 1).val by
      rw [← BitVec.ofNat_add, Nat.sub_add_cancel h], BitVec.add_sub_cancel]
  refine (congrArg (IntOp.cmpi .sle · (BitVec.ofNat 32 256)) e).trans ?_
  exact cmpi_sle_ofNat (by omega) (by norm_num)

theorem v122_at (i : S2048x2048.Idx) : val_main_v122 (F := Ideal) i = BitVec.ofBool (decide (winMask (i 0).val (i 1))) := by
  rw [val_main_v122_apply, v93_at]
  by_cases h : (i 1).val ≤ (i 0).val
  · rw [v121_at i h]
    exact (andi_ofBool _ _).trans (congrArg BitVec.ofBool (Bool.decide_and _ _).symm)
  · rw [decide_eq_false h, decide_eq_false (fun hw => h hw.1)]
    show 0#1 &&& _ = 0#1
    exact BitVec.zero_and

theorem v123_at (i : S1x1x2048x2048.Idx) : val_main_v123 (F := Ideal) i = BitVec.ofBool (decide (winMask (i 2).val (i 3))) := by
  rw [val_main_v123_apply, v122_at]

theorem v124_at (i : S1x4x2048x2048.Idx) : val_main_v124 (F := Ideal) x0 x1 i
    = if winMask (i 2).val (i 3) then sc x0 x1 (i 1) (i 2) (i 3) else ⊥ := by
  rw [val_main_v124_apply, val_main_call9_v1_apply, v123_at, v96_at, val_main_call9_v2_apply, val_main_call9_v0_apply, val_main_cst_23_apply, bot_bits]
  exact sel_of _ _ _

theorem v125_at (j : S1x4x2048.Idx) : val_main_v125 (F := Ideal) x0 x1 j = smax (winMask (j 2).val) (sc x0 x1 (j 1) (j 2)) := by
  unfold val_main_v125
  refine (max2048 _ _ (fun k => ?_) j).trans ?_
  · rw [val_main_cst_24_apply]; exact bot_bits
  · unfold smax
    exact congrArg _ (funext fun n => v124_at x0 x1 _)

theorem v132_at (i : S1x4x2048x2048.Idx) : val_main_v132 (F := Ideal) x0 x1 i
    = snum (winMask (i 2).val) (sc x0 x1 (i 1) (i 2)) (i 3) := by
  rw [val_main_v132_apply, val_main_v129_apply, val_main_v128_apply, v124_at, val_main_v127_apply, val_main_v126_apply, v125_at, val_main_v131_apply,
    val_main_v130_apply, v123_at, uind_of]
  unfold snum
  exact masked_num _ _ _

theorem v138_at (i : S1x4x2048x2048.Idx) : val_main_v138 (F := Ideal) x0 x1 i
    = Ideal.div (snum (winMask (i 2).val) (sc x0 x1 (i 1) (i 2)) (i 3)) (sden (winMask (i 2).val) (sc x0 x1 (i 1) (i 2))) := by
  rw [val_main_v138_apply, v132_at, val_main_v137_apply, val_main_v136_apply, val_main_v134_apply, val_main_v133_apply, val_main_v135_apply,
    val_main_cst_25_apply, val_main_cst_26_apply, zero_bits]
  unfold sden
  refine congrArg (Ideal.div _) ?_
  refine congrArg (max · eps) ?_
  rw [zero_add]
  exact Finset.sum_congr rfl fun k _ => v132_at x0 x1 _

theorem v139_at (i : S1x4x2048x128.Idx) : val_main_v139 (F := Ideal) x0 x1 x2 i
    = attend (headRows x0 (i 1) (i 2)) (headRows x1 (i 1)) (headRows x2 (i 1)) (winMask (i 2).val) (i 3) := by
  rw [val_main_v139_apply]
  refine (Finset.sum_congr rfl fun n _ => ?_).trans (attend_sum _ _ _ _ _)
  rw [v138_at, v2_at]; rfl

/-! ## The gates -/

theorem one_bits : (FloatOps.ofBits .f32 0x3F800000#32 : Ideal .f32) = 1 := by
  show Ideal.ofBits .f32 0x3F800000#32 = 1
  simp [Ideal.ofBits, Ideal.ieee]
  rw [← EReal.coe_one]
  exact_mod_cast (by norm_num : (8388608 : ℝ) * (2 ^ 23)⁻¹ = 1)

/-- The row's gates. -/
abbrev gt (h : Fin 4) (t : Fin 2048) : Fin 3 → EReal := gate (headRows x0 h t) (fun d c => x5 (ix2 d c)) (fun c => x6 (ix1 c))

theorem v149_at (i : S1x2048x4x3.Idx) : val_main_v149 (F := Ideal) x0 x5 x6 i = gt x0 x5 x6 (i 2) (i 1) (i 3) := by
  rw [val_main_v149_apply, val_main_v148_apply, val_main_cst_28_apply, val_main_v147_apply, val_main_v146_apply, val_main_cst_27_apply,
    val_main_v145_apply, val_main_v144_apply, val_main_v143_apply, val_main_v140_apply, val_main_v142_apply, val_main_v141_apply, one_bits]
  unfold gt gate
  refine congrArg Ideal.logistic (congrArg₂ (· + ·) (Finset.sum_congr rfl fun k _ => ?_) ?_)
  · rw [head_at x0]
    refine congrArg (headRows x0 (i 2) (i 1) k * ·) (congrArg x5 (funext fun a => ?_))
    match a with
    | ⟨0, _⟩ => rfl
    | ⟨1, _⟩ => rfl
  · refine congrArg x6 (funext fun a => ?_)
    match a with
    | ⟨0, _⟩ => rfl

theorem g0_at (i : S1x4x2048x128.Idx) : val_main_v152 (F := Ideal) x0 x5 x6 i = gt x0 x5 x6 (i 1) (i 2) 0 := by
  rw [val_main_v152_apply, val_main_v151_apply, val_main_v150_apply, v149_at]; rfl
theorem g1_at (i : S1x4x2048x128.Idx) : val_main_v155 (F := Ideal) x0 x5 x6 i = gt x0 x5 x6 (i 1) (i 2) 1 := by
  rw [val_main_v155_apply, val_main_v154_apply, val_main_v150_apply, v149_at]; rfl
theorem g2_at (i : S1x4x2048x128.Idx) : val_main_v159 (F := Ideal) x0 x5 x6 i = gt x0 x5 x6 (i 1) (i 2) 2 := by
  rw [val_main_v159_apply, val_main_v158_apply, val_main_v150_apply, v149_at]; rfl

/-- The reference's result. -/
theorem ref_at (i : S1x2048x4x128.Idx) : val_main_v162 (F := Ideal) x0 x1 x2 x3 x4 x5 x6 i = nsa x0 x1 x2 x3 x4 x5 x6 (i 1) (i 2) (i 3) := by
  rw [val_main_v162_apply, val_main_v161_apply, val_main_v157_apply, val_main_v153_apply, v55_at, g0_at, val_main_v156_apply, v114_at, g1_at,
    val_main_v160_apply, v139_at, g2_at]
  rfl

end

end Cert.ReferenceIdeal.Hand

end
-- ==== Proof.RefOut.lean ====
module

public import proofs.«01_k».proof.Proof.RefAtt
public import proofs.«01_k».proof.Proof.Gen.ReferenceIdeal.Run
public import proofs.«01_k».proof.Proof.Gen.ReferenceIdeal.Read

@[expose] public section

/-! # What the reference returns -/

set_option maxRecDepth 16384

noncomputable section

namespace Cert.ReferenceIdeal.Hand

open Cert.ReferenceIdeal Cert.ReferenceIdeal.Read Cert.Nsa
open Idealize.ShloMosaic Idealize.ShloMosaic.TcCoe Idealize.SL.Sem

/-- From any memory the reference ends with the result in its buffer and its arguments as launched. -/
theorem reference_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v162) = (fun i : S1x2048x4x128.Idx =>
        nsa (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1.trans (val_main_v162_eq (StableHlo.launchContents m c))).trans (funext fun i => ref_at _ _ _ _ _ _ _ i), (h c).2⟩)
    (Cert.ReferenceIdeal.Value.run (F := Ideal) m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.KernelFrame
public import proofs.«01_k».proof.Proof.IdealFrame
public import proofs.«01_k».proof.Proof.IdealResult
public import proofs.«01_k».proof.Proof.RefOut

@[expose] public section

noncomputable section

namespace Cert.Proof

open Idealize.ShloMosaic Idealize.SL.Sem

/-- The kernel runs, its arguments unchanged and its counters at zero, bit for bit. -/
theorem frame_p : Cert.quiescent_Kernel := fun m ρ _ => Cert.Kernel.Hand.frame_main (F := Bits) m ρ

/-- The same at the extended reals. -/
theorem frame_pi : Cert.quiescent_KernelIdeal := fun m ρ _ => Cert.KernelIdeal.Hand.frame_main (F := Ideal) m ρ

/-- The reference's run leaves its arguments alone; it has no counter. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The one rewrite of the idealization: the mask literal is named, at the value `⊥`. -/
theorem preserves : Cert.preserves_Kernel_KernelIdeal :=
  IdealRules.named_const.statement Cert.KernelIdeal.κ "mask" .f32 0xF149F2CA#32 ⊥ rfl

/-- From equal arguments the idealized kernel and the reference both return `Nsa.nsa` of them. -/
theorem algebraic : Cert.algebraic_KernelIdeal_ReferenceIdeal := fun m g m' g' _ hargs =>
  ⟨fun c => Cert.KernelIdeal.Hand.nsaRes m c, Cert.KernelIdeal.Hand.kernel_value m g,
    (θ_run Cert.ReferenceIdeal.defs _ _).mono (fun r h c => ⟨(h c).1.trans (by
      obtain ⟨h0, h1, h2, h3, h4, h5, h6⟩ := hargs c
      rw [h0, h1, h2, h3, h4, h5, h6]
      rfl), (h c).2⟩) (Cert.ReferenceIdeal.Hand.reference_value m' g')⟩

theorem claim : Cert.Claim :=
  ⟨Cert.Kernel.Gen.facts, Cert.KernelIdeal.Gen.facts, Cert.ReferenceIdeal.Gen.facts, frame_p, frame_pi, frame_ri, preserves, algebraic⟩

end Cert.Proof

end
